-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_nonneg [hPre_ids_nonneg : Cert.Pre_ids_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_ids_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_nonneg [hPre_ids_nonneg : Cert.Pre_ids_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_ids_nonneg [hKernelIdeal : Cert.KernelIdeal.Facts] [hPre_ids_nonneg : Cert.Pre_ids_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_nonneg m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_ids_nonneg [hReferenceIdeal : Cert.ReferenceIdeal.Facts] [hPre_ids_nonneg : Cert.Pre_ids_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_ids_nonneg [hKernelIdeal : Cert.KernelIdeal.Facts] [hReferenceIdeal : Cert.ReferenceIdeal.Facts] [hPre_ids_nonneg : Cert.Pre_ids_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v3)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v3) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_v20) = v2 c
          ∧ r.2.mem ((c.tc : Thread Cert.ReferenceIdeal.nD Cert.ReferenceIdeal.τ).loc Cert.ReferenceIdeal.main_v13_1) = v3 c
          ∧ r.2.mem ((c.tc : Thread Cert.ReferenceIdeal.nD Cert.ReferenceIdeal.τ).loc Cert.ReferenceIdeal.main_v39) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_ids_nonneg : Cert.Pre_ids_nonneg.Facts),
    quiescent_Kernel (hKernel := hKernel)
    ∧ quiescent_KernelIdeal (hKernelIdeal := hKernelIdeal)
    ∧ quiescent_KernelIdeal_pre_ids_nonneg (hKernelIdeal := hKernelIdeal) (hPre_ids_nonneg := hPre_ids_nonneg)
    ∧ quiescent_ReferenceIdeal (hReferenceIdeal := hReferenceIdeal)
    ∧ quiescent_ReferenceIdeal_pre_ids_nonneg (hReferenceIdeal := hReferenceIdeal) (hPre_ids_nonneg := hPre_ids_nonneg)
    ∧ preserves_Kernel_KernelIdeal
    ∧ algebraic_KernelIdeal_ReferenceIdeal_pre_ids_nonneg (hKernelIdeal := hKernelIdeal) (hReferenceIdeal := hReferenceIdeal) (hPre_ids_nonneg := hPre_ids_nonneg)
-- ==== Pre_ids_nonneg.lean ====
abbrev S2x4096x16384 : Shape := ⟨3, ![2, 4096, 16384]⟩
abbrev S2x4096 : Shape := ⟨2, ![2, 4096]⟩
abbrev S16384x16 : Shape := ⟨2, ![16384, 16]⟩
abbrev S2x4096x4 : Shape := ⟨3, ![2, 4096, 4]⟩
abbrev S_ : Shape := ⟨0, ![]⟩

class Facts : Prop where
  bcast_S_S2x4096x4 : S_.BroadcastsInDim S2x4096x4 (![] : Fin 0 → Fin S2x4096x4.rank)

variable [Facts]

def fn {F : FTy → Type} [FloatOps F] (main_arg0 : FVec F S2x4096x16384 .fp8e4m3) (main_arg1 : FVec F S2x4096 .f32) (main_arg2 : FVec F S16384x16 .bf16) (main_arg3 : IVec S2x4096x4 32) : IVec S2x4096x4 1 :=
  let main_c : IVec S_ 32 := constantI S_ 32 0#32
  let main_v0 : IVec S2x4096x4 32 := broadcastInDim S2x4096x4 ![] bcast_S_S2x4096x4 main_c
  let main_v1 : IVec S2x4096x4 1 := cmpi .sge main_arg3 main_v0
  main_v1
-- ==== Kernel.lean ====
abbrev S2x4096x16384 : Shape := ⟨3, ![2, 4096, 16384]⟩
abbrev S2x4096 : Shape := ⟨2, ![2, 4096]⟩
abbrev S16384x16 : Shape := ⟨2, ![16384, 16]⟩
abbrev S2x4096x4 : Shape := ⟨3, ![2, 4096, 4]⟩
abbrev S16x16384 : Shape := ⟨2, ![16, 16384]⟩
abbrev S2x4x4096 : Shape := ⟨3, ![2, 4, 4096]⟩
abbrev S1x16 : Shape := ⟨2, ![1, 16]⟩
abbrev S2x16x4096 : Shape := ⟨3, ![2, 16, 4096]⟩
abbrev S2x256x16384 : Shape := ⟨3, ![2, 256, 16384]⟩
abbrev S2x256 : Shape := ⟨2, ![2, 256]⟩
abbrev S2x16x256 : Shape := ⟨3, ![2, 16, 256]⟩
abbrev S16x128 : Shape := ⟨2, ![16, 128]⟩
abbrev S4x128 : Shape := ⟨2, ![4, 128]⟩
abbrev S1x4x128 : Shape := ⟨3, ![1, 4, 128]⟩
abbrev S128 : Shape := ⟨1, ![128]⟩
abbrev S1x128 : Shape := ⟨2, ![1, 128]⟩
abbrev S16 : Shape := ⟨1, ![16]⟩
abbrev S16x1 : Shape := ⟨2, ![16, 1]⟩
abbrev S1x256x16384 : Shape := ⟨3, ![1, 256, 16384]⟩
abbrev S256x16384 : Shape := ⟨2, ![256, 16384]⟩
abbrev S16x256 : Shape := ⟨2, ![16, 256]⟩
abbrev S1x256 : Shape := ⟨2, ![1, 256]⟩
abbrev S256 : Shape := ⟨1, ![256]⟩
abbrev S1x16x256 : Shape := ⟨3, ![1, 16, 256]⟩
abbrev S2x4096x16 : Shape := ⟨3, ![2, 4096, 16]⟩

abbrev nBuf : Space → Nat
  | .hbm => 13
  | .vmem => 17
  | .smem => 0
  | _ => 0

abbrev bufTy : (tb : Table) → Fin (tcTables nBuf tb) → BufTy
  | .hbm, ⟨0, _⟩ => ⟨S2x4096x16384, .fp8e4m3⟩
  | .hbm, ⟨1, _⟩ => ⟨S2x4096, .f32⟩
  | .hbm, ⟨2, _⟩ => ⟨S16384x16, .bf16⟩
  | .hbm, ⟨3, _⟩ => ⟨S2x4096x4, .i32⟩
  | .hbm, ⟨4, _⟩ => ⟨S16x16384, .bf16⟩
  | .hbm, ⟨5, _⟩ => ⟨S2x4x4096, .i32⟩
  | .hbm, ⟨6, _⟩ => ⟨S2x4096, .f32⟩
  | .hbm, ⟨7, _⟩ => ⟨S2x4096, .f32⟩
  | .hbm, ⟨8, _⟩ => ⟨S1x16, .f32⟩
  | .hbm, ⟨9, _⟩ => ⟨S2x4096, .f32⟩
  | .hbm, ⟨10, _⟩ => ⟨S2x16x4096, .f32⟩
  | .hbm, ⟨11, _⟩ => ⟨S16, .f32⟩
  | .hbm, ⟨12, _⟩ => ⟨S2x4096x16, .f32⟩
  | .local _ .vmem, ⟨0, _⟩ => ⟨S2x256x16384, .fp8e4m3⟩
  | .local _ .vmem, ⟨1, _⟩ => ⟨S2x256x16384, .fp8e4m3⟩
  | .local _ .vmem, ⟨2, _⟩ => ⟨S2x256, .f32⟩
  | .local _ .vmem, ⟨3, _⟩ => ⟨S2x256, .f32⟩
  | .local _ .vmem, ⟨4, _⟩ => ⟨S16x16384, .bf16⟩
  | .local _ .vmem, ⟨5, _⟩ => ⟨S2x4x4096, .i32⟩
  | .local _ .vmem, ⟨6, _⟩ => ⟨S2x256, .f32⟩
  | .local _ .vmem, ⟨7, _⟩ => ⟨S2x256, .f32⟩
  | .local _ .vmem, ⟨8, _⟩ => ⟨S2x256, .f32⟩
  | .local _ .vmem, ⟨9, _⟩ => ⟨S2x256, .f32⟩
  | .local _ .vmem, ⟨10, _⟩ => ⟨S1x16, .f32⟩
  | .local _ .vmem, ⟨11, _⟩ => ⟨S2x256, .f32⟩
  | .local _ .vmem, ⟨12, _⟩ => ⟨S2x256, .f32⟩
  | .local _ .vmem, ⟨13, _⟩ => ⟨S2x16x256, .f32⟩
  | .local _ .vmem, ⟨14, _⟩ => ⟨S2x16x256, .f32⟩
  | .local _ .vmem, ⟨15, _⟩ => ⟨S16x128, .f32⟩
  | .local _ .vmem, ⟨16, _⟩ => ⟨S16x128, .f32⟩
  | _, _ => ⟨S2x4096x16384, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v2_4 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v112 : BitVec 1 := Scalar.cmpi .eq arg0 c15_i32
  let v113 : BitVec 32 := Scalar.extui v112
  let c0_i32_54 : BitVec 32 := 0#32
  let v114 : BitVec 1 := Scalar.cmpi .ne v113 c0_i32_54
  v114

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S2x256x16384 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x16384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x4x4096 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x16x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S2x4096x16384 : Shape := ⟨3, ![2, 4096, 16384]⟩
abbrev S2x4096 : Shape := ⟨2, ![2, 4096]⟩
abbrev S16384x16 : Shape := ⟨2, ![16384, 16]⟩
abbrev S2x4096x4 : Shape := ⟨3, ![2, 4096, 4]⟩
abbrev S_ : Shape := ⟨0, ![]⟩
abbrev S16 : Shape := ⟨1, ![16]⟩
abbrev S32768 : Shape := ⟨1, ![32768]⟩
abbrev S32768x1 : Shape := ⟨2, ![32768, 1]⟩
abbrev S2x4096x16 : Shape := ⟨3, ![2, 4096, 16]⟩
abbrev S2x4096x1 : Shape := ⟨3, ![2, 4096, 1]⟩
abbrev S1x1x16 : Shape := ⟨3, ![1, 1, 16]⟩

abbrev nBuf : Space → Nat
  | .hbm => 56
  | .vmem => 5
  | .smem => 0
  | _ => 0

abbrev bufTy : (tb : Table) → Fin (tcTables nBuf tb) → BufTy
  | .hbm, ⟨0, _⟩ => ⟨S2x4096x16384, .fp8e4m3⟩
  | .hbm, ⟨1, _⟩ => ⟨S2x4096, .f32⟩
  | .hbm, ⟨2, _⟩ => ⟨S16384x16, .bf16⟩
  | .hbm, ⟨3, _⟩ => ⟨S2x4096x4, .i32⟩
  | .hbm, ⟨4, _⟩ => ⟨S_, .i32⟩
  | .hbm, ⟨5, _⟩ => ⟨S16, .i32⟩
  | .hbm, ⟨6, _⟩ => ⟨S32768, .i32⟩
  | .hbm, ⟨7, _⟩ => ⟨S_, .i32⟩
  | .hbm, ⟨8, _⟩ => ⟨S32768, .i32⟩
  | .hbm, ⟨9, _⟩ => ⟨S32768, .i1⟩
  | .hbm, ⟨10, _⟩ => ⟨S_, .i32⟩
  | .hbm, ⟨11, _⟩ => ⟨S32768, .i32⟩
  | .hbm, ⟨12, _⟩ => ⟨S32768, .i32⟩
  | .hbm, ⟨13, _⟩ => ⟨S32768, .i32⟩
  | .hbm, ⟨14, _⟩ => ⟨S32768x1, .i32⟩
  | .hbm, ⟨15, _⟩ => ⟨S_, .i32⟩
  | .hbm, ⟨16, _⟩ => ⟨S32768, .i32⟩
  | .hbm, ⟨17, _⟩ => ⟨S16, .i32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S2x4096x16, .f32⟩
  | .hbm, ⟨23, _⟩ => ⟨S2x4096, .f32⟩
  | .hbm, ⟨24, _⟩ => ⟨S2x4096x1, .f32⟩
  | .hbm, ⟨25, _⟩ => ⟨S2x4096x16, .f32⟩
  | .hbm, ⟨26, _⟩ => ⟨S2x4096x16, .f32⟩
  | .hbm, ⟨27, _⟩ => ⟨S2x4096x16, .f32⟩
  | .hbm, ⟨28, _⟩ => ⟨S_, .f32⟩
  | .hbm, ⟨29, _⟩ => ⟨S16, .f32⟩
  | .hbm, ⟨30, _⟩ => ⟨S_, .f32⟩
  | .hbm, ⟨31, _⟩ => ⟨S16, .f32⟩
  | .hbm, ⟨32, _⟩ => ⟨S16, .f32⟩
  | .hbm, ⟨33, _⟩ => ⟨S2x4096, .f32⟩
  | .hbm, ⟨34, _⟩ => ⟨S_, .f32⟩
  | .hbm, ⟨35, _⟩ => ⟨S2x4096, .f32⟩
  | .hbm, ⟨36, _⟩ => ⟨S2x4096, .f32⟩
  | .hbm, ⟨37, _⟩ => ⟨S2x4096, .f32⟩
  | .hbm, ⟨38, _⟩ => ⟨S_, .f32⟩
  | .hbm, ⟨39, _⟩ => ⟨S2x4096, .f32⟩
  | .hbm, ⟨40, _⟩ => ⟨S2x4096, .f32⟩
  | .hbm, ⟨41, _⟩ => ⟨S2x4096x1, .f32⟩
  | .hbm, ⟨42, _⟩ => ⟨S1x1x16, .f32⟩
  | .hbm, ⟨43, _⟩ => ⟨S2x4096x16, .f32⟩
  | .hbm, ⟨44, _⟩ => ⟨S2x4096x16, .f32⟩
  | .hbm, ⟨45, _⟩ => ⟨S2x4096x16, .f32⟩
  | .hbm, ⟨46, _⟩ => ⟨S_, .f32⟩
  | .hbm, ⟨47, _⟩ => ⟨S2x4096x16, .f32⟩
  | .hbm, ⟨48, _⟩ => ⟨S2x4096x16, .f32⟩
  | .hbm, ⟨49, _⟩ => ⟨S2x4096x1, .f32⟩
  | .hbm, ⟨50, _⟩ => ⟨S_, .f32⟩
  | .hbm, ⟨51, _⟩ => ⟨S2x4096x1, .f32⟩
  | .hbm, ⟨52, _⟩ => ⟨S2x4096x1, .f32⟩
  | .hbm, ⟨53, _⟩ => ⟨S2x4096x16, .f32⟩
  | .hbm, ⟨54, _⟩ => ⟨S2x4096x16, .f32⟩
  | .hbm, ⟨55, _⟩ => ⟨S2x4096x16, .f32⟩
  | .local _ .vmem, ⟨0, _⟩ => ⟨S2x4096x16384, .fp8e4m3⟩
  | .local _ .vmem, ⟨1, _⟩ => ⟨S2x4096, .f32⟩
  | .local _ .vmem, ⟨2, _⟩ => ⟨S16384x16, .bf16⟩
  | .local _ .vmem, ⟨3, _⟩ => ⟨S2x4096x16, .f32⟩
  | .local _ .vmem, ⟨4, _⟩ => ⟨S2x4096, .f32⟩
  | _, _ => ⟨S2x4096x16384, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S2x4096x16384 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384x16 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x4096x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Spec.lean ====
module
public import Idealize.ShloMosaic.Lib.Pointwise
public import Idealize.ShloMosaic.PureOps.Ideal

/-!
The router statistics of ONE token at extended reals, from its sixteen logits `z` and the experts' fractions `f`. Both
programs are read down to these functions: the kernel's blocks and the reference's arrays are each of them, token by token.
-/

@[expose] public section
noncomputable section
namespace Cert.Spec
open Idealize.ShloMosaic

/-- The largest logit (the fold starts at the lowest float, −∞). -/
def mx (z : Fin 16 → EReal) : EReal := Finset.fold max (Ideal.ofBits FTy.f32 4286578688#32) z Finset.univ

/-- The shift of the exponentials: the largest logit, or 0 where that is not finite. -/
def shift (z : Fin 16 → EReal) : EReal :=
  Scalar.select (IntOp.xori (FloatOps.weird (F := Ideal) (mx z)) 1#1) (mx z) 0

/-- log Σ exp of the logits. -/
def lse (z : Fin 16 → EReal) : EReal := Ideal.log (∑ e, Ideal.exp (z e - shift z)) + shift z

/-- The softmax probability of expert `e`. -/
def prob (z : Fin 16 → EReal) (e : Fin 16) : EReal := Ideal.exp (z e - lse z)

/-- The probabilities' mean of the fractions `f`. -/
def gate (z f : Fin 16 → EReal) : EReal := ∑ e, prob z e * f e

/-- The token's term of the load-balance loss. -/
def aux (z f : Fin 16 → EReal) : EReal := Ideal.ofBits FTy.f32 0x37A3D70A#32 * gate z f

/-- The token's term of the z-loss. -/
def zterm (z : Fin 16 → EReal) : EReal := Ideal.ofBits FTy.f32 0x3403126F#32 * (lse z * lse z)

/-- The gradient of the token's terms in logit `e`. -/
def dlogit (z f : Fin 16 → EReal) (e : Fin 16) : EReal :=
  prob z e * (Ideal.ofBits FTy.f32 0x37A3D70A#32 * (f e - gate z f) + Ideal.ofBits FTy.f32 0x3483126F#32 * lse z)

/-- How many of the routed ids name expert `e`. -/
def count (ids : Fin 2 → Fin 4096 → Fin 4 → BitVec 32) (e : Fin 16) : ℕ :=
  ∑ b, ∑ s, ∑ k, if ids b s k = BitVec.ofNat 32 e then 1 else 0

/-- The fraction of the routed ids naming expert `e`: the count over the number of ids. -/
def frac (ids : Fin 2 → Fin 4096 → Fin 4 → BitVec 32) (e : Fin 16) : EReal :=
  Ideal.div (((count ids e : ℕ) : ℝ) : EReal) (Ideal.ofBits FTy.f32 0x47000000#32)

/-- The mean over the tokens of expert `e`'s probability. -/
def mean (z : Fin 2 → Fin 4096 → Fin 16 → EReal) (e : Fin 16) : EReal :=
  Ideal.div (∑ b, ∑ s, prob (z b s) e) (Ideal.ofBits FTy.f32 0x46000000#32)

/-- The logits: tokens times router weights, at the token's scale. -/
def logits (X : Fin 2 → Fin 4096 → Fin 16384 → EReal) (S : Fin 2 → Fin 4096 → EReal) (W : Fin 16384 → Fin 16 → EReal)
    (b : Fin 2) (s : Fin 4096) (e : Fin 16) : EReal := (∑ d, X b s d * W d e) * S b s

end Cert.Spec
-- ==== Proof.Payload.lean ====
module
public import proofs.«01_k».proof.Proof.Gen.KernelIdeal.Skeleton
public import Idealize.ShloMosaic.Lib.Pipeline.ValueKit
public import proofs.«01_k».proof.Proof.Spec

/-!
The kernel's body on one batch row of a tile, read at an index: each of its values is a router statistic of one token
(`Spec`). The body's second batch row runs the same operations as its first, so its values are the first's (`rfl`).
-/

@[expose] public section
set_option maxRecDepth 16384
noncomputable section
namespace Cert.KernelIdeal.Payload
open Cert.KernelIdeal Cert.KernelIdeal.Gen Idealize.ShloMosaic

variable (v3 : Vec Ideal S16x1 .f32) (v4 : Vec Ideal S16x16384 .bf16) (v7 : Vec Ideal S1x256x16384 .fp8e4m3)
  (v10 : Vec Ideal S1x256 .f32)

/-- The logits of token `l` of the row. -/
def zrow (l : Fin 256) (e : Fin 16) : EReal := (∑ d, v4 (ix2 e d) * v7 (ix3 0 l d)) * v10 (ix2 0 l)

/-- The weights are used as loaded. -/
theorem pay1202 : k0_pay1202 v4 = v4 := by
  funext i; idx_vars i; pointwise [k0_pay1202]

/-- The row's logits. -/
theorem pay1203 (e : Fin 16) (l : Fin 256) : k0_pay1203 v4 v7 v10 (ix2 e l) = zrow v4 v7 v10 l e := by
  pointwise [k0_pay1203, pay1202, zrow]

/-- The row's log-sum-exp. -/
theorem pay1204 (k : Fin 1) (l : Fin 256) : k0_pay1204 v4 v7 v10 (ix2 k l) = Spec.lse (zrow v4 v7 v10 l) := by
  pointwise [k0_pay1204]
  simp only [pay1203]
  rfl

/-- The row's probabilities. -/
theorem pay1205 (e : Fin 16) (l : Fin 256) : k0_pay1205 v4 v7 v10 (ix2 e l) = Spec.prob (zrow v4 v7 v10 l) e := by
  pointwise [k0_pay1205]
  simp only [pay1203, pay1204]
  rfl

/-- The row's means of the fractions. -/
theorem pay1206 (k : Fin 1) (l : Fin 256) :
    k0_pay1206 v3 v4 v7 v10 (ix2 k l) = Spec.gate (zrow v4 v7 v10 l) (fun e => v3 (ix2 e 0)) := by
  pointwise [k0_pay1206]
  simp only [pay1205]
  rfl

/-- The row's terms of the load-balance loss. -/
theorem pay1207 (k : Fin 1) (l : Fin 256) :
    k0_pay1207 v3 v4 v7 v10 (ix2 k l) = Spec.aux (zrow v4 v7 v10 l) (fun e => v3 (ix2 e 0)) := by
  pointwise [k0_pay1207]
  simp only [pay1206]
  rfl

/-- The row's terms of the z-loss. -/
theorem pay1208 (k : Fin 1) (l : Fin 256) :
    k0_pay1208 (k0_pay1204 v4 v7 v10) (ix2 k l) = Spec.zterm (zrow v4 v7 v10 l) := by
  pointwise [k0_pay1208]
  simp only [pay1204]
  rfl

/-- The row's gradients. -/
theorem pay1209 (k : Fin 1) (e : Fin 16) (l : Fin 256) :
    k0_pay1209 v3 (k0_pay1204 v4 v7 v10) (k0_pay1205 v4 v7 v10) (k0_pay1206 v3 v4 v7 v10) (ix3 k e l)
      = Spec.dlogit (zrow v4 v7 v10 l) (fun e => v3 (ix2 e 0)) e := by
  pointwise [k0_pay1209]
  simp only [pay1204, pay1205, pay1206]
  rfl

/-- The lane sums: a row adds its probabilities at the tile's two lane chunks. -/
theorem pay1210 (v6 : Vec Ideal S16x128 .f32) (e : Fin 16) (g : Fin 128) :
    k0_pay1210 v6 (k0_pay1205 v4 v7 v10) (ix2 e g)
      = v6 (ix2 e g) + Spec.prob (zrow v4 v7 v10 ⟨g, by omega⟩) e + Spec.prob (zrow v4 v7 v10 ⟨128 + g, by omega⟩) e := by
  pointwise [k0_pay1210]
  simp only [pay1205]

/-! The second row's values are the first's, of its own loads. -/

/-- The second row's log-sum-exp. -/
theorem pay1214 : k0_pay1214 (k0_pay1212 (k0_pay1202 v4) v7 v10) (k0_pay1213 (k0_pay1202 v4) v7 v10) = k0_pay1204 v4 v7 v10 := rfl

/-- The second row's probabilities. -/
theorem pay1215 : k0_pay1215 (k0_pay1211 (k0_pay1202 v4) v7 v10) (k0_pay1212 (k0_pay1202 v4) v7 v10)
    (k0_pay1213 (k0_pay1202 v4) v7 v10) = k0_pay1205 v4 v7 v10 := rfl

/-- The second row's terms of the load-balance loss. -/
theorem pay1217 : k0_pay1217 v3 (k0_pay1211 (k0_pay1202 v4) v7 v10) (k0_pay1212 (k0_pay1202 v4) v7 v10)
    (k0_pay1213 (k0_pay1202 v4) v7 v10) = k0_pay1207 v3 v4 v7 v10 := rfl

/-- The second row's terms of the z-loss. -/
theorem pay1218 : k0_pay1218 (k0_pay1212 (k0_pay1202 v4) v7 v10) (k0_pay1213 (k0_pay1202 v4) v7 v10)
    = k0_pay1208 (k0_pay1204 v4 v7 v10) := rfl

/-- The second row's gradients. -/
theorem pay1219 : k0_pay1219 v3 (k0_pay1211 (k0_pay1202 v4) v7 v10) (k0_pay1212 (k0_pay1202 v4) v7 v10)
    (k0_pay1213 (k0_pay1202 v4) v7 v10)
    = k0_pay1209 v3 (k0_pay1204 v4 v7 v10) (k0_pay1205 v4 v7 v10) (k0_pay1206 v3 v4 v7 v10) := rfl

/-- The second row's part of the lane sums. -/
theorem pay1220 (v6 : FVec Ideal S16x128 .f32) (e : Fin 16) (g : Fin 128) :
    k0_pay1220 v6 (k0_pay1211 (k0_pay1202 v4) v7 v10) (k0_pay1212 (k0_pay1202 v4) v7 v10)
      (k0_pay1213 (k0_pay1202 v4) v7 v10) (ix2 e g) = k0_pay1210 v6 (k0_pay1205 v4 v7 v10) (ix2 e g) := by
  rw [← pay1215]
  pointwise [k0_pay1220, k0_pay1210]

/-- The lane sums start at zero. -/
theorem pay1201 (e : Fin 16) (g : Fin 128) : k0_pay1201 (F := Ideal) (ix2 e g) = 0 := by
  pointwise [k0_pay1201]

/-- The mean over the tokens: the lane sums added along the lanes, the diagonal picking expert `e`'s. -/
theorem pay1 (v : Vec Ideal S16x128 .f32) (k : Fin 1) (e : Fin 16) :
    k0_pay1 v (ix2 k e) = Ideal.div (∑ g, v (ix2 e g)) (Ideal.ofBits FTy.f32 1174405120#32) := by
  pointwise [k0_pay1]
  rw [Finset.sum_eq_single e]
  · simp [Scalar.select, IntOp.cmpi]
  · intro e' _ h
    have h' : ¬ (BitVec.ofNat 32 ↑e' = BitVec.ofNat 32 ↑e) := by
      intro h2
      apply h
      have := congrArg BitVec.toNat h2
      simp only [BitVec.toNat_ofNat] at this
      exact Fin.ext (by omega)
    rw [Scalar.select, if_neg]
    have h3 : (BitVec.ofNat 32 ↑e' == BitVec.ofNat 32 ↑e) = false := beq_eq_false_iff_ne.mpr h'
    show ¬ BitVec.ofBool (BitVec.ofNat 32 ↑e' == BitVec.ofNat 32 ↑e) = 1#1
    rw [h3]; decide
  · simp

/-! ## A tile's four output blocks: two rows, each stored whole -/

variable (H : Vec Ideal S16x128 .f32) (x0 : Vec Ideal S2x256x16384 .fp8e4m3) (x1 : Vec Ideal S2x256 .f32)
  (x2 : Vec Ideal S16x16384 .bf16)

/-- The logits of token `l` of batch row `b` of the tile. -/
def ztile (b : Fin 2) (l : Fin 256) (e : Fin 16) : EReal := (∑ d, x2 (ix2 e d) * x0 (ix3 b l d)) * x1 (ix2 b l)

/-- Batch row 0's operands. -/
abbrev xr0 : Vec Ideal S1x256x16384 .fp8e4m3 := View.ld x0 (Rect.unit ![0, 0, 0] ![1, 256, 16384] inb_S2x256x16384_S1x256x16384_0_0_0)
abbrev sr0 : Vec Ideal S1x256 .f32 := View.ld x1 (Rect.unit ![0, 0] ![1, 256] inb_S2x256_S1x256_0_0)
/-- Batch row 1's operands. -/
abbrev xr1 : Vec Ideal S1x256x16384 .fp8e4m3 := View.ld x0 (Rect.unit ![1, 0, 0] ![1, 256, 16384] inb_S2x256x16384_S1x256x16384_1_0_0)
abbrev sr1 : Vec Ideal S1x256 .f32 := View.ld x1 (Rect.unit ![1, 0] ![1, 256] inb_S2x256_S1x256_1_0)
/-- The fractions: the first lane of the kept array. -/
abbrev fr : Vec Ideal S16x1 .f32 := View.ld H (Rect.unit ![0, 0] ![16, 1] inb_S16x128_S16x1_0_0)

/-- The first row's logits are the tile's at batch row 0. -/
theorem zrow0 (l : Fin 256) : zrow x2 (xr0 x0) (sr0 x1) l = ztile x0 x1 x2 0 l := by
  funext e; unfold zrow ztile xr0 sr0; pointwise

/-- The second row's logits are the tile's at batch row 1. -/
theorem zrow1 (l : Fin 256) : zrow x2 (xr1 x0) (sr1 x1) l = ztile x0 x1 x2 1 l := by
  funext e; unfold zrow ztile xr1 sr1; pointwise

/-- The fractions as read by the body: the first lane of the kept ones. -/
theorem fr_apply (e : Fin 16) (k : Fin 1) : fr H (ix2 e k) = H (ix2 e 0) := by
  fin_cases k; unfold fr; pointwise

/-- The same as a function of the expert. -/
theorem fr_fun : (fun e => fr H (ix2 e 0)) = fun e => H (ix2 e 0) := funext fun e => fr_apply H e 0

/-- Window 4's block: the terms of the load-balance loss. -/
theorem aux_tile (b : Fin 2) (l : Fin 256) :
    View.canon (Val := Elt Ideal) (s := S2x256) (e := .f32) [
      ⟨Rect.unit ![1, 0] ![1, 256] inb_S2x256_S1x256_1_0,
        k0_pay1217 (fr H) (k0_pay1211 (k0_pay1202 x2) (xr1 x0) (sr1 x1)) (k0_pay1212 (k0_pay1202 x2) (xr1 x0) (sr1 x1))
          (k0_pay1213 (k0_pay1202 x2) (xr1 x0) (sr1 x1))⟩,
      ⟨Rect.unit ![0, 0] ![1, 256] inb_S2x256_S1x256_0_0,
        k0_pay1207 (fr H) x2 (xr0 x0) (sr0 x1)⟩] (ix2 b l)
      = Spec.aux (ztile x0 x1 x2 b l) (fun e => H (ix2 e 0)) := by
  canon_tiles i h
  · idx_vars i
    obtain rfl : b = 1 := Fin.ext (by show (b : ℕ) = 1; omega)
    obtain rfl : l = i1 := Fin.ext h1
    exact ((congrFun (pay1217 (fr H) x2 (xr1 x0) (sr1 x1)) _).trans (pay1207 (fr H) x2 (xr1 x0) (sr1 x1) i0 l)).trans (by simp only [zrow1, fr_fun])
  · idx_vars i
    obtain rfl : b = 0 := Fin.ext (by show (b : ℕ) = 0; omega)
    obtain rfl : l = i1 := Fin.ext h1
    exact (pay1207 (fr H) x2 (xr0 x0) (sr0 x1) i0 l).trans (by simp only [zrow0, fr_fun])

/-- Window 5's block: the terms of the z-loss. -/
theorem zterm_tile (b : Fin 2) (l : Fin 256) :
    View.canon (Val := Elt Ideal) (s := S2x256) (e := .f32) [
      ⟨Rect.unit ![1, 0] ![1, 256] inb_S2x256_S1x256_1_0,
        k0_pay1218 (k0_pay1212 (k0_pay1202 x2) (xr1 x0) (sr1 x1)) (k0_pay1213 (k0_pay1202 x2) (xr1 x0) (sr1 x1))⟩,
      ⟨Rect.unit ![0, 0] ![1, 256] inb_S2x256_S1x256_0_0,
        k0_pay1208 (k0_pay1204 x2 (xr0 x0) (sr0 x1))⟩] (ix2 b l)
      = Spec.zterm (ztile x0 x1 x2 b l) := by
  canon_tiles i h
  · idx_vars i
    obtain rfl : b = 1 := Fin.ext (by show (b : ℕ) = 1; omega)
    obtain rfl : l = i1 := Fin.ext h1
    exact ((congrFun (pay1218 x2 (xr1 x0) (sr1 x1)) _).trans (pay1208 x2 (xr1 x0) (sr1 x1) i0 l)).trans (by simp only [zrow1, fr_fun])
  · idx_vars i
    obtain rfl : b = 0 := Fin.ext (by show (b : ℕ) = 0; omega)
    obtain rfl : l = i1 := Fin.ext h1
    exact (pay1208 x2 (xr0 x0) (sr0 x1) i0 l).trans (by simp only [zrow0, fr_fun])

/-- Window 7's block: the log-sum-exp. -/
theorem lse_tile (b : Fin 2) (l : Fin 256) :
    View.canon (Val := Elt Ideal) (s := S2x256) (e := .f32) [
      ⟨Rect.unit ![1, 0] ![1, 256] inb_S2x256_S1x256_1_0,
        k0_pay1214 (k0_pay1212 (k0_pay1202 x2) (xr1 x0) (sr1 x1)) (k0_pay1213 (k0_pay1202 x2) (xr1 x0) (sr1 x1))⟩,
      ⟨Rect.unit ![0, 0] ![1, 256] inb_S2x256_S1x256_0_0,
        k0_pay1204 x2 (xr0 x0) (sr0 x1)⟩] (ix2 b l)
      = Spec.lse (ztile x0 x1 x2 b l) := by
  canon_tiles i h
  · idx_vars i
    obtain rfl : b = 1 := Fin.ext (by show (b : ℕ) = 1; omega)
    obtain rfl : l = i1 := Fin.ext h1
    exact ((congrFun (pay1214 x2 (xr1 x0) (sr1 x1)) _).trans (pay1204 x2 (xr1 x0) (sr1 x1) i0 l)).trans (by simp only [zrow1, fr_fun])
  · idx_vars i
    obtain rfl : b = 0 := Fin.ext (by show (b : ℕ) = 0; omega)
    obtain rfl : l = i1 := Fin.ext h1
    exact (pay1204 x2 (xr0 x0) (sr0 x1) i0 l).trans (by simp only [zrow0, fr_fun])

/-- Window 8's block: the gradients. -/
theorem dlogit_tile (b : Fin 2) (e : Fin 16) (l : Fin 256) :
    View.canon (Val := Elt Ideal) (s := S2x16x256) (e := .f32) [
      ⟨Rect.unit ![1, 0, 0] ![1, 16, 256] inb_S2x16x256_S1x16x256_1_0_0,
        k0_pay1219 (fr H) (k0_pay1211 (k0_pay1202 x2) (xr1 x0) (sr1 x1)) (k0_pay1212 (k0_pay1202 x2) (xr1 x0) (sr1 x1))
          (k0_pay1213 (k0_pay1202 x2) (xr1 x0) (sr1 x1))⟩,
      ⟨Rect.unit ![0, 0, 0] ![1, 16, 256] inb_S2x16x256_S1x16x256_0_0_0,
        k0_pay1209 (fr H) (k0_pay1204 x2 (xr0 x0) (sr0 x1)) (k0_pay1205 x2 (xr0 x0) (sr0 x1))
          (k0_pay1206 (fr H) x2 (xr0 x0) (sr0 x1))⟩] (ix3 b e l)
      = Spec.dlogit (ztile x0 x1 x2 b l) (fun e => H (ix2 e 0)) e := by
  canon_tiles i h
  · idx_vars i
    obtain rfl : b = 1 := Fin.ext (by show (b : ℕ) = 1; omega)
    obtain rfl : e = i1 := Fin.ext h1
    obtain rfl : l = i2 := Fin.ext h2
    exact ((congrFun (pay1219 (fr H) x2 (xr1 x0) (sr1 x1)) _).trans (pay1209 (fr H) x2 (xr1 x0) (sr1 x1) i0 e l)).trans (by simp only [zrow1, fr_fun])
  · idx_vars i
    obtain rfl : b = 0 := Fin.ext (by show (b : ℕ) = 0; omega)
    obtain rfl : e = i1 := Fin.ext h1
    obtain rfl : l = i2 := Fin.ext h2
    exact (pay1209 (fr H) x2 (xr0 x0) (sr0 x1) i0 e l).trans (by simp only [zrow0, fr_fun])

/-- The sum of a tile's probabilities at lane `g` of its two lane chunks and its two batch rows. -/
def tileSum (e : Fin 16) (g : Fin 128) : EReal :=
  ∑ b : Fin 2, ∑ h : Fin 2, Spec.prob (ztile x0 x1 x2 b ⟨128 * h + g, by omega⟩) e

/-- One tile's step of the lane sums. -/
theorem acc_tile (v6 : FVec Ideal S16x128 .f32) (e : Fin 16) (g : Fin 128) :
    k0_pay1220 (k0_pay1210 v6 (k0_pay1205 x2 (xr0 x0) (sr0 x1))) (k0_pay1211 (k0_pay1202 x2) (xr1 x0) (sr1 x1)) (k0_pay1212 (k0_pay1202 x2) (xr1 x0) (sr1 x1))
      (k0_pay1213 (k0_pay1202 x2) (xr1 x0) (sr1 x1)) (ix2 e g) = v6 (ix2 e g) + tileSum x0 x1 x2 e g := by
  rw [pay1220, pay1210, pay1210, zrow1, zrow1, zrow0, zrow0]
  simp only [tileSum, Fin.sum_univ_two, Fin.val_zero, Fin.val_one, Nat.mul_zero, Nat.mul_one, Nat.zero_add, add_assoc]

end Cert.KernelIdeal.Payload
-- ==== Proof.Hist.lean ====
module
public import proofs.«01_k».proof.Proof.Gen.KernelIdeal.Skeleton
public import Idealize.ShloMosaic.Lib.Pipeline.ValueKit
public import proofs.«01_k».proof.Proof.Spec

/-!
The kernel's histogram of the routed ids, read at an index: one counter of 4 × 128 lanes per expert, stepped by each of
the 64 lane chunks of the ids, added up and divided by the number of ids.
-/

@[expose] public section
set_option maxRecDepth 65536
noncomputable section
namespace Cert.KernelIdeal.Hist
open Cert.KernelIdeal Cert.KernelIdeal.Gen Idealize.ShloMosaic

/-- Lane chunk `n` of the ids: batch row `n / 32`, tokens `128 (n % 32) …`. -/
def chunk (x3 : Vec Ideal S2x4x4096 .i32) (n : ℕ) : Vec Ideal S1x4x128 .i32 :=
  View.ld x3 (Rect.unit ![n / 32 % 2, 0, 128 * (n % 32)] ![1, 4, 128] (by
    intro a; fin_cases a <;> simp [S2x4x4096] <;> omega))

/-- One chunk's step of expert `e`'s counter. -/
def step (e : BitVec 32) (a : IVec S4x128 32) (v : Vec Ideal S1x4x128 .i32) : IVec S4x128 32 :=
  addi a (extui 32 (cmpi .eq (shapeCast S4x128 v shapeCasts_S1x4x128_S4x128) (broadcast S4x128 e)) natLt_1_32)

/-- Expert `e`'s counter after the first `n` chunks. -/
def chain (x3 : Vec Ideal S2x4x4096 .i32) (e : BitVec 32) : ℕ → IVec S4x128 32
  | 0 => broadcast S4x128 0#32
  | n + 1 => step e (chain x3 e n) (chunk x3 n)

/-- The fractions of sixteen counters. -/
theorem fracs (c : Fin 16 → IVec S4x128 32) (e : Fin 16) (g : Fin 128) :
    k0_pay1200 (F := Ideal) (k0_pay1199 (c 12) (c 13) (c 14) (c 15) (k0_pay1187 (c 0)) (k0_pay1188 (c 1)) (k0_pay1189 (c 2)) (k0_pay1190 (c 3))
      (k0_pay1191 (c 4)) (k0_pay1192 (c 5)) (k0_pay1193 (c 6)) (k0_pay1194 (c 7)) (k0_pay1195 (c 8)) (k0_pay1196 (c 9)) (k0_pay1197 (c 10))
      (k0_pay1198 (c 11))) (ix2 e g)
      = Ideal.div (∑ l : Fin 128, ∑ r : Fin 4, Scalar.sitofp (F := Ideal) .f32 (c e (ix2 r l))) (Ideal.ofBits FTy.f32 0x47000000#32) := by
  pointwise [k0_pay1200, k0_pay1199]
  congr 1
  refine Finset.sum_congr rfl fun l _ => ?_
  fin_cases e <;> pointwise [k0_pay1187, k0_pay1188, k0_pay1189, k0_pay1190, k0_pay1191, k0_pay1192, k0_pay1193, k0_pay1194,
    k0_pay1195, k0_pay1196, k0_pay1197, k0_pay1198] <;> rfl

/-- A counter's value: how many of the ids it has seen name its expert. -/
theorem chain_apply (x3 : Vec Ideal S2x4x4096 .i32) (e : BitVec 32) (n : ℕ) (r : Fin 4) (l : Fin 128) :
    chain x3 e n (ix2 r l) = BitVec.ofNat 32 (∑ k ∈ Finset.range n,
      if x3 (ix3 ⟨k / 32 % 2, by omega⟩ r ⟨128 * (k % 32) + l, by omega⟩) = e then 1 else 0) := by
  induction n with
  | zero => pointwise [chain]; rfl
  | succ n ih =>
    rw [chain, step]
    unfold chunk
    pointwise
    rw [ih, Finset.sum_range_succ, BitVec.ofNat_add]
    refine congrArg (_ + ·) ?_
    generalize x3 _ = v
    by_cases h : v = e
    · subst h; simp [IntOp.cmpi]
    · have h3 : (v == e) = false := beq_eq_false_iff_ne.mpr h
      show BitVec.setWidth 32 (BitVec.ofBool (v == e)) = _
      rw [h3, if_neg h]; rfl

/-- The number of a count below `2 ^ 31`, read as a number. -/
theorem sitofp_ofNat (n : ℕ) (h : n < 2 ^ 31) : Scalar.sitofp (F := Ideal) .f32 (BitVec.ofNat 32 n) = ((n : ℝ) : EReal) := by
  show (((BitVec.ofNat 32 n).toInt : ℝ) : EReal) = _
  have : (BitVec.ofNat 32 n).toInt = n := by
    rw [BitVec.toInt_eq_toNat_of_lt] <;> simp only [BitVec.toNat_ofNat] <;> omega
  rw [this]; rfl

/-- A sum over `m n` indices, by blocks of `n`. -/
theorem sum_split {M : Type*} [AddCommMonoid M] (a b : ℕ) (F : Fin (a * b) → M) :
    ∑ s, F s = ∑ q : Fin a, ∑ l : Fin b, F (finProdFinEquiv (q, l)) := by
  rw [← finProdFinEquiv.sum_comp, Fintype.sum_prod_type]

/-- The sum of the counters over their lanes is the count of the ids. -/
theorem sum_chain (x3 : Vec Ideal S2x4x4096 .i32) (e : Fin 16) :
    (∑ l : Fin 128, ∑ r : Fin 4, Scalar.sitofp (F := Ideal) .f32 (chain x3 (BitVec.ofNat 32 e) 64 (ix2 r l)))
      = ((Spec.count (fun b s k => x3 (ix3 b k s)) e : ℝ) : EReal) := by
  have hb (r : Fin 4) (l : Fin 128) : (∑ k ∈ Finset.range 64,
      if x3 (ix3 ⟨k / 32 % 2, by omega⟩ r ⟨128 * (k % 32) + l, by omega⟩) = BitVec.ofNat 32 e then 1 else 0) < 2 ^ 31 :=
    lt_of_le_of_lt (Finset.sum_le_card_nsmul _ _ 1 fun k _ => by split <;> simp) (by simp)
  have h0 (r : Fin 4) (l : Fin 128) := (congrArg (Scalar.sitofp (F := Ideal) .f32) (chain_apply x3 (BitVec.ofNat 32 e) 64 r l)).trans
    ((sitofp_ofNat _ (hb r l)).trans (EReal.coe_natCast))
  simp only [h0]
  rw [EReal.coe_natCast, Spec.count]
  simp only [← Nat.cast_sum]
  refine congrArg _ ?_
  have h1 (b : Fin 2) : (∑ s : Fin 4096, ∑ k : Fin 4, if x3 (ix3 b k s) = BitVec.ofNat 32 e then 1 else 0)
      = ∑ q : Fin 32, ∑ l : Fin 128, ∑ k : Fin 4,
        if x3 (ix3 b k ⟨128 * q + l, by omega⟩) = BitVec.ofNat 32 e then 1 else 0 :=
    (sum_split 32 128 (fun s : Fin 4096 => ∑ k : Fin 4, if x3 (ix3 b k s) = BitVec.ofNat 32 e then 1 else 0)).trans
      (Finset.sum_congr rfl fun q _ => Finset.sum_congr rfl fun l _ => Finset.sum_congr rfl fun k _ => by
        rw [show (finProdFinEquiv (q, l) : Fin 4096) = ⟨128 * q + l, by omega⟩ from Fin.ext (by show (l : ℕ) + 128 * q = 128 * q + l; omega)])
  have h2 (r : Fin 4) (l : Fin 128) : (∑ k ∈ Finset.range 64,
      if x3 (ix3 ⟨k / 32 % 2, by omega⟩ r ⟨128 * (k % 32) + l, by omega⟩) = BitVec.ofNat 32 e then 1 else 0)
      = ∑ b : Fin 2, ∑ q : Fin 32, if x3 (ix3 b r ⟨128 * q + l, by omega⟩) = BitVec.ofNat 32 e then 1 else 0 := by
    rw [Finset.sum_range]
    refine (sum_split 2 32 (fun k : Fin 64 => if x3 (ix3 ⟨k / 32 % 2, by omega⟩ r ⟨128 * (k % 32) + l, by omega⟩)
      = BitVec.ofNat 32 e then 1 else 0)).trans
      (Finset.sum_congr rfl fun b _ => Finset.sum_congr rfl fun q _ => ?_)
    have e1 : (⟨(finProdFinEquiv (b, q) : Fin 64) / 32 % 2, by omega⟩ : Fin 2) = b := Fin.ext (by
      show ((q : ℕ) + 32 * b) / 32 % 2 = b; omega)
    have e2 : (⟨128 * ((finProdFinEquiv (b, q) : Fin 64) % 32) + l, by omega⟩ : Fin 4096) = ⟨128 * q + l, by omega⟩ :=
      Fin.ext (by show 128 * (((q : ℕ) + 32 * b) % 32) + (l : ℕ) = 128 * q + l; omega)
    rw [e1, e2]
  simp only [h1, h2]
  rw [Finset.sum_congr rfl fun l _ => Finset.sum_comm, Finset.sum_comm]
  refine Finset.sum_congr rfl fun b _ => ?_
  rw [Finset.sum_congr rfl fun l _ => Finset.sum_comm, Finset.sum_comm]

end Cert.KernelIdeal.Hist
-- ==== Proof.Kept.lean ====
module
public import proofs.«01_k».proof.Proof.Gen.KernelIdeal.Frame
public import Idealize.ShloMosaic.Lib.Pipeline.ReadBack
public import proofs.«01_k».proof.Proof.Payload
public import proofs.«01_k».proof.Proof.Hist

/-!
What each grid point of the kernel leaves in its output blocks and in its two kept arrays, at an index. The first point
counts the ids, every point takes its tile's statistics, the last one the mean.
-/

@[expose] public section
set_option maxRecDepth 65536
noncomputable section
namespace Cert.KernelIdeal.Points
open Cert.KernelIdeal Cert.KernelIdeal.Gen Idealize.ShloMosaic Idealize.SL.Sem Cert.KernelIdeal.Payload Cert.KernelIdeal.Hist

variable (m : (ℓ : Loc nD τ sig) → Buf (Elt Ideal) ℓ) (c : Dev nD) (t : Fin cfg0.N)

/-- The kept fractions after point `t`. -/
abbrev kept : Vec Ideal S16x128 .f32 := (outsAt0 m c t.val t.isLt).2.2.2.2.2.1

/-- The kept lane sums after point `t`. -/
abbrev acc : Vec Ideal S16x128 .f32 := (outsAt0 m c t.val t.isLt).2.2.2.2.2.2

/-- The logits of token `l` of batch row `b` of point `t`'s tile. -/
abbrev zt (b : Fin 2) (l : Fin 256) : Fin 16 → EReal := ztile (iblk m c 0 t) (iblk m c 1 t) (iblk m c 2 t) b l

/-- The first point's fractions: the count of the ids. -/
theorem kept_first (h0 : t.val % 16 = 0) (e : Fin 16) (g : Fin 128) :
    kept m c t (ix2 e g) = Spec.frac (fun b s k => (iblk m c 3 t : Vec Ideal S2x4x4096 .i32) (ix3 b k s)) e := by
  have h1 : ¬ t.val % 16 = 15 := by omega
  unfold kept
  rw [outsAt0_A m c t h0 h1]
  dsimp only
  frame_open
  simp (disch := decide) only [↓ View.readCov_skip, ↓ View.readCov_cons_toLoadRect, ↓ View.readCov_fill]
  simp (disch := decide) only [View.read_writes_junk_eq_canon, View.canon_cons_unit_lit', View.readAt_eq_ld, Memref.IsWhole.read_unread]
  refine Eq.trans ?_ (congrArg (Ideal.div · (Ideal.ofBits FTy.f32 0x47000000#32)) (sum_chain (iblk m c 3 t) e))
  exact fracs (fun e => chain (iblk m c 3 t) (BitVec.ofNat 32 e) 64) e g

end Cert.KernelIdeal.Points
-- ==== Proof.Points.lean ====
module
public import proofs.«01_k».proof.Proof.Gen.KernelIdeal.Frame
public import Idealize.ShloMosaic.Lib.Pipeline.ReadBack
public import proofs.«01_k».proof.Proof.Payload
public import proofs.«01_k».proof.Proof.Kept

/-!
What each grid point of the kernel leaves in its output blocks and in its two kept arrays, at an index. The first point
counts the ids, every point takes its tile's statistics, the last one the mean.
-/

@[expose] public section
set_option maxRecDepth 16384
noncomputable section
namespace Cert.KernelIdeal.Points
open Cert.KernelIdeal Cert.KernelIdeal.Gen Idealize.ShloMosaic Idealize.SL.Sem Cert.KernelIdeal.Payload Cert.KernelIdeal.Hist

variable (m : (ℓ : Loc nD τ sig) → Buf (Elt Ideal) ℓ) (c : Dev nD) (t : Fin cfg0.N)

/-- Window 4's block. -/
theorem out4 (b : Fin 2) (l : Fin 256) : (outsAt0 m c t.val t.isLt).1 (ix2 b l)
    = Spec.aux (zt m c t b l) (fun e => kept m c t (ix2 e 0)) := by
  unfold kept
  by_cases h1 : t.val % 16 = 15
  · have h0 : ¬ t.val % 16 = 0 := by omega
    rw [outsAt0_C m c t h0 h1]
    dsimp only [sout0_C_0]
    frame_out
    simp only [read_unread_whole]
    exact aux_tile _ (iblk m c 0 t) (iblk m c 1 t) (iblk m c 2 t) b l
  · by_cases h0 : t.val % 16 = 0
    · rw [outsAt0_A m c t h0 h1]
      dsimp only
      frame_open
      simp (disch := decide) only [↓ View.readCov_skip, ↓ View.readCov_cons_toLoadRect, ↓ View.readCov_fill]
      frame_out
      generalize k0_pay1200 _ = H
      exact aux_tile _ (iblk m c 0 t) (iblk m c 1 t) (iblk m c 2 t) b l
    · rw [outsAt0_B m c t h0 h1]
      dsimp only [sout0_B_0]
      frame_out
      simp only [read_unread_whole]
      exact aux_tile _ (iblk m c 0 t) (iblk m c 1 t) (iblk m c 2 t) b l

/-- Window 5's block. -/
theorem out5 (b : Fin 2) (l : Fin 256) : (outsAt0 m c t.val t.isLt).2.1 (ix2 b l)
    = Spec.zterm (zt m c t b l) := by
  by_cases h1 : t.val % 16 = 15
  · have h0 : ¬ t.val % 16 = 0 := by omega
    rw [outsAt0_C m c t h0 h1]
    dsimp only [sout0_C_0]
    frame_out
    exact zterm_tile (iblk m c 0 t) (iblk m c 1 t) (iblk m c 2 t) b l
  · by_cases h0 : t.val % 16 = 0
    · rw [outsAt0_A m c t h0 h1]
      dsimp only
      frame_open
      simp (disch := decide) only [↓ View.readCov_skip, ↓ View.readCov_cons_toLoadRect, ↓ View.readCov_fill]
      frame_out
      exact zterm_tile (iblk m c 0 t) (iblk m c 1 t) (iblk m c 2 t) b l
    · rw [outsAt0_B m c t h0 h1]
      dsimp only [sout0_B_0]
      frame_out
      exact zterm_tile (iblk m c 0 t) (iblk m c 1 t) (iblk m c 2 t) b l

/-- Window 7's block. -/
theorem out7 (b : Fin 2) (l : Fin 256) : (outsAt0 m c t.val t.isLt).2.2.2.1 (ix2 b l)
    = Spec.lse (zt m c t b l) := by
  by_cases h1 : t.val % 16 = 15
  · have h0 : ¬ t.val % 16 = 0 := by omega
    rw [outsAt0_C m c t h0 h1]
    dsimp only [sout0_C_0]
    frame_out
    exact lse_tile (iblk m c 0 t) (iblk m c 1 t) (iblk m c 2 t) b l
  · by_cases h0 : t.val % 16 = 0
    · rw [outsAt0_A m c t h0 h1]
      dsimp only
      frame_open
      simp (disch := decide) only [↓ View.readCov_skip, ↓ View.readCov_cons_toLoadRect, ↓ View.readCov_fill]
      frame_out
      exact lse_tile (iblk m c 0 t) (iblk m c 1 t) (iblk m c 2 t) b l
    · rw [outsAt0_B m c t h0 h1]
      dsimp only [sout0_B_0]
      frame_out
      exact lse_tile (iblk m c 0 t) (iblk m c 1 t) (iblk m c 2 t) b l

/-- Window 8's block. -/
theorem out8 (b : Fin 2) (e : Fin 16) (l : Fin 256) : (outsAt0 m c t.val t.isLt).2.2.2.2.1 (ix3 b e l)
    = Spec.dlogit (zt m c t b l) (fun e => kept m c t (ix2 e 0)) e := by
  unfold kept
  by_cases h1 : t.val % 16 = 15
  · have h0 : ¬ t.val % 16 = 0 := by omega
    rw [outsAt0_C m c t h0 h1]
    dsimp only [sout0_C_0]
    frame_out
    simp only [read_unread_whole]
    exact dlogit_tile _ (iblk m c 0 t) (iblk m c 1 t) (iblk m c 2 t) b e l
  · by_cases h0 : t.val % 16 = 0
    · rw [outsAt0_A m c t h0 h1]
      dsimp only
      frame_open
      simp (disch := decide) only [↓ View.readCov_skip, ↓ View.readCov_cons_toLoadRect, ↓ View.readCov_fill]
      frame_out
      generalize k0_pay1200 _ = H
      exact dlogit_tile _ (iblk m c 0 t) (iblk m c 1 t) (iblk m c 2 t) b e l
    · rw [outsAt0_B m c t h0 h1]
      dsimp only [sout0_B_0]
      frame_out
      simp only [read_unread_whole]
      exact dlogit_tile _ (iblk m c 0 t) (iblk m c 1 t) (iblk m c 2 t) b e l

/-- Every later point keeps the fractions. -/
theorem kept_step (h0 : ¬ t.val % 16 = 0) :
    kept m c t = kept m c ⟨t.val - 1, Nat.lt_of_le_of_lt (Nat.sub_le _ _) t.isLt⟩ := by
  unfold kept
  by_cases h1 : t.val % 16 = 15
  · rw [outsAt0_C m c t h0 h1]
    dsimp only [sout0_C_0]
  · rw [outsAt0_B m c t h0 h1]
    dsimp only [sout0_B_0]

/-- The first point's lane sums. -/
theorem acc_first (h0 : t.val % 16 = 0) (e : Fin 16) (g : Fin 128) :
    acc m c t (ix2 e g) = 0 + tileSum (iblk m c 0 t) (iblk m c 1 t) (iblk m c 2 t) e g := by
  have h1 : ¬ t.val % 16 = 15 := by omega
  unfold acc
  rw [outsAt0_A m c t h0 h1]
  dsimp only
  frame_open
  simp (disch := decide) only [↓ View.readCov_skip, ↓ View.readCov_cons_toLoadRect, ↓ View.readCov_fill]
  frame_out
  rw [← pay1201 e g]
  exact acc_tile (iblk m c 0 t) (iblk m c 1 t) (iblk m c 2 t) _ e g

/-- Every later point adds its tile's sums. -/
theorem acc_step (h0 : ¬ t.val % 16 = 0) (e : Fin 16) (g : Fin 128) :
    acc m c t (ix2 e g) = acc m c ⟨t.val - 1, Nat.lt_of_le_of_lt (Nat.sub_le _ _) t.isLt⟩ (ix2 e g) + tileSum (iblk m c 0 t) (iblk m c 1 t) (iblk m c 2 t) e g := by
  unfold acc
  by_cases h1 : t.val % 16 = 15
  · rw [outsAt0_C m c t h0 h1]
    dsimp only [sout0_C_0]
    frame_out
    simp only [read_unread_whole]
    exact acc_tile (iblk m c 0 t) (iblk m c 1 t) (iblk m c 2 t) _ e g
  · rw [outsAt0_B m c t h0 h1]
    dsimp only [sout0_B_0]
    frame_out
    simp only [read_unread_whole]
    exact acc_tile (iblk m c 0 t) (iblk m c 1 t) (iblk m c 2 t) _ e g

/-- The last point's mean: of the lane sums it leaves. -/
theorem out6 (h1 : t.val % 16 = 15) (k : Fin 1) (e : Fin 16) :
    (outsAt0 m c t.val t.isLt).2.2.1 (ix2 k e)
      = Ideal.div (∑ g, acc m c t (ix2 e g)) (Ideal.ofBits FTy.f32 1174405120#32) := by
  have h0 : ¬ t.val % 16 = 0 := by omega
  unfold acc
  rw [outsAt0_C m c t h0 h1]
  dsimp only [sout0_C_0]
  frame_out
  simp only [read_unread_whole]
  exact pay1 _ k e

end Cert.KernelIdeal.Points
-- ==== Proof.KArr.lean ====
module
public import proofs.«01_k».proof.Proof.Points

/-!
The arrays the kernel's pipeline leaves, as functions of the arguments: the grid's tiles put together.
-/

@[expose] public section
set_option maxRecDepth 16384
noncomputable section
namespace Cert.KernelIdeal.KArr
open Cert.KernelIdeal Cert.KernelIdeal.Gen Idealize.ShloMosaic Idealize.SL.Sem Cert.KernelIdeal.Payload Cert.KernelIdeal.Points

variable (m : (ℓ : Loc nD τ sig) → Buf (Elt Ideal) ℓ) (c : Dev nD) (t : Fin cfg0.N)

/-- Every window's block index at a point: the token windows move along their token axis, the others stay. -/
theorem idx : ∀ t : Fin cfg0.N, win0_0.index t = ![0, t.val, 0] ∧ win0_1.index t = ![0, t.val] ∧ win0_2.index t = ![0, 0]
    ∧ win0_3.index t = ![0, 0, 0] ∧ win0_4.index t = ![0, t.val] ∧ win0_5.index t = ![0, t.val] ∧ win0_6.index t = ![0, 0]
    ∧ win0_7.index t = ![0, t.val] ∧ win0_8.index t = ![0, 0, t.val] := by decide +kernel

/-- The grid has sixteen points. -/
theorem lt16 : t.val < 16 := lt_of_lt_of_eq t.isLt (show cfg0.N = 16 from N_0)

/-- The kernel's arguments, at indices. -/
def argX (b : Fin 2) (s : Fin 4096) (d : Fin 16384) : EReal :=
  (m ((c.tc : Thread nD τ).loc main_arg0) : Vec Ideal S2x4096x16384 .fp8e4m3) (ix3 b s d)
def argS (b : Fin 2) (s : Fin 4096) : EReal := (m ((c.tc : Thread nD τ).loc main_arg1) : Vec Ideal S2x4096 .f32) (ix2 b s)
def argW (d : Fin 16384) (e : Fin 16) : EReal := (m ((c.tc : Thread nD τ).loc main_arg2) : Vec Ideal S16384x16 .bf16) (ix2 d e)
def argI (b : Fin 2) (s : Fin 4096) (k : Fin 4) : BitVec 32 :=
  (m ((c.tc : Thread nD τ).loc main_arg3) : Vec Ideal S2x4096x4 .i32) (ix3 b s k)

/-- The logits of the arguments. -/
def zz (b : Fin 2) (s : Fin 4096) : Fin 16 → EReal := Spec.logits (argX m c) (argS m c) (argW m c) b s

/-- The fractions of the arguments. -/
def ff (e : Fin 16) : EReal := Spec.frac (argI m c) e

/-- A point's block of the codes is its tile of tokens. -/
theorem blk0 (b : Fin 2) (l : Fin 256) (d : Fin 16384) :
    (iblk m c 0 t : Vec Ideal S2x256x16384 .fp8e4m3) (ix3 b l d) = argX m c b ⟨256 * t + l, by have := lt16 t; omega⟩ d := by
  unfold argX
  rw [← V_main_arg0 m c]
  blk_ext [iblk, V, idx t]

/-- A point's block of the scales is its tile of tokens. -/
theorem blk1 (b : Fin 2) (l : Fin 256) :
    (iblk m c 1 t : Vec Ideal S2x256 .f32) (ix2 b l) = argS m c b ⟨256 * t + l, by have := lt16 t; omega⟩ := by
  unfold argS
  rw [← V_main_arg1 m c]
  blk_ext [iblk, V, idx t]

/-- The region finds the weights transposed. -/
theorem V_main_v0 (e : Fin 16) (d : Fin 16384) : (V m c main_v0 : Vec Ideal S16x16384 .bf16) (ix2 e d) = argW m c d e := by
  unfold V V0
  simp only [List.flatten_cons, List.flatten_nil, List.append_nil]
  after_results
  pointwise
  rfl

/-- The region finds the ids with the choices before the tokens. -/
theorem V_main_v1 (b : Fin 2) (k : Fin 4) (s : Fin 4096) : (V m c main_v1 : Vec Ideal S2x4x4096 .i32) (ix3 b k s) = argI m c b s k := by
  unfold V V0
  simp only [List.flatten_cons, List.flatten_nil, List.append_nil]
  after_results
  pointwise
  rfl

/-- Every point reads all the weights. -/
theorem blk2 (e : Fin 16) (d : Fin 16384) : (iblk m c 2 t : Vec Ideal S16x16384 .bf16) (ix2 e d) = argW m c d e := by
  rw [← V_main_v0]
  blk_ext [iblk, idx t]

/-- Every point reads all the ids. -/
theorem blk3 (b : Fin 2) (k : Fin 4) (s : Fin 4096) : (iblk m c 3 t : Vec Ideal S2x4x4096 .i32) (ix3 b k s) = argI m c b s k := by
  rw [← V_main_v1]
  blk_ext [iblk, idx t]

/-- A tile's logits are the token's. -/
theorem zt_eq (b : Fin 2) (l : Fin 256) : zt m c t b l = zz m c b ⟨256 * t + l, by have := lt16 t; omega⟩ := by
  funext e
  unfold zt ztile zz Spec.logits
  refine congrArg₂ (· * ·) (Finset.sum_congr rfl fun d _ => ?_) (blk1 m c t b l)
  exact (mul_comm _ _).trans (congrArg₂ (· * ·) (blk0 m c t b l d) (blk2 m c t e d))

/-- Every point keeps the fractions of the ids. -/
theorem kept_eq (e : Fin 16) (g : Fin 128) : kept m c t (ix2 e g) = ff m c e := by
  obtain ⟨n, hn⟩ := t
  induction n with
  | zero =>
    rw [kept_first m c ⟨0, hn⟩ rfl]
    unfold ff
    exact congrArg (Spec.frac · e) (funext fun b => funext fun s => funext fun k => blk3 m c _ b k s)
  | succ n ih =>
    have h : n + 1 < 16 := lt16 ⟨n + 1, hn⟩
    rw [kept_step m c ⟨n + 1, hn⟩ (by show ¬ (n + 1) % 16 = 0; omega)]
    exact ih _

/-- The kept fractions' first lane, as a function of the expert. -/
theorem kept_fun : (fun e => kept m c t (ix2 e 0)) = ff m c := funext fun e => kept_eq m c t e 0

/-- Token `l` of point `t`'s tile. -/
def tok (t : Fin cfg0.N) (l : Fin 256) : Fin 4096 := ⟨256 * t + l, by have := lt16 t; omega⟩

/-- Window 4's array: the terms of the load-balance loss. -/
theorem arr4 : (dats m 0 c).arrAt 4 (cfgs 0).N = fun i : S2x4096.Idx => Spec.aux (zz m c (i 0) (i 1)) (ff m c) := by
  refine (dats m 0 c).arrAt_eq_of_covers 4 _ (by decide +kernel) fun t hf y => ?_
  have h : ((cfg0.win 4).blk t).view.emb y = ix2 (y 0) (tok t (y 1)) := by
    unfold tok; blk_ext [idx t]
  rw [h]
  blk_simp
  rw [after0_4]
  idx_vars y
  exact (out4 m c t y0 y1).trans (by rw [zt_eq, kept_fun]; rfl)

/-- Window 5's array: the terms of the z-loss. -/
theorem arr5 : (dats m 0 c).arrAt 5 (cfgs 0).N = fun i : S2x4096.Idx => Spec.zterm (zz m c (i 0) (i 1)) := by
  refine (dats m 0 c).arrAt_eq_of_covers 5 _ (by decide +kernel) fun t hf y => ?_
  have h : ((cfg0.win 5).blk t).view.emb y = ix2 (y 0) (tok t (y 1)) := by
    unfold tok; blk_ext [idx t]
  rw [h]
  blk_simp
  rw [after0_5]
  idx_vars y
  exact (out5 m c t y0 y1).trans (by rw [zt_eq]; rfl)

/-- Window 7's array: the log-sum-exp. -/
theorem arr7 : (dats m 0 c).arrAt 7 (cfgs 0).N = fun i : S2x4096.Idx => Spec.lse (zz m c (i 0) (i 1)) := by
  refine (dats m 0 c).arrAt_eq_of_covers 7 _ (by decide +kernel) fun t hf y => ?_
  have h : ((cfg0.win 7).blk t).view.emb y = ix2 (y 0) (tok t (y 1)) := by
    unfold tok; blk_ext [idx t]
  rw [h]
  blk_simp
  rw [after0_7]
  idx_vars y
  exact (out7 m c t y0 y1).trans (by rw [zt_eq]; rfl)

/-- Window 8's array: the gradients, experts before tokens. -/
theorem arr8 : (dats m 0 c).arrAt 8 (cfgs 0).N = fun i : S2x16x4096.Idx => Spec.dlogit (zz m c (i 0) (i 2)) (ff m c) (i 1) := by
  refine (dats m 0 c).arrAt_eq_of_covers 8 _ (by decide +kernel) fun t hf y => ?_
  have h : ((cfg0.win 8).blk t).view.emb y = ix3 (y 0) (y 1) (tok t (y 2)) := by
    unfold tok; blk_ext [idx t]
  rw [h]
  blk_simp
  rw [after0_8]
  idx_vars y
  exact (out8 m c t y0 y1 y2).trans (by rw [zt_eq, kept_fun]; rfl)

/-- What tile `k` adds to lane `g`'s sum. -/
def term (e : Fin 16) (g : Fin 128) (k : ℕ) : EReal :=
  ∑ b : Fin 2, ∑ h : Fin 2, Spec.prob (zz m c b ⟨(256 * k + (128 * h + g)) % 4096, Nat.mod_lt _ (by decide)⟩) e

/-- A tile's lane sums are those of its tokens. -/
theorem tileSum_eq (e : Fin 16) (g : Fin 128) :
    tileSum (iblk m c 0 t) (iblk m c 1 t) (iblk m c 2 t) e g = term m c e g t.val := by
  unfold tileSum term
  refine Finset.sum_congr rfl fun b _ => Finset.sum_congr rfl fun h _ => ?_
  rw [show ztile (iblk m c 0 t) (iblk m c 1 t) (iblk m c 2 t) b ⟨128 * h + g, by omega⟩
    = zz m c b ⟨256 * t + (128 * h + g), by have := lt16 t; omega⟩ from zt_eq m c t b ⟨128 * h + g, by omega⟩]
  refine congrArg (fun s => Spec.prob (zz m c b s) e) (Fin.ext ?_)
  have := lt16 t
  show 256 * t.val + (128 * h.val + g.val) = (256 * t.val + (128 * h.val + g.val)) % 4096
  omega

/-- The lane sums after a point: the tiles so far. -/
theorem acc_eq (e : Fin 16) (g : Fin 128) : acc m c t (ix2 e g) = ∑ k ∈ Finset.range (t.val + 1), term m c e g k := by
  obtain ⟨n, hn⟩ := t
  induction n with
  | zero =>
    rw [acc_first m c ⟨0, hn⟩ rfl, tileSum_eq, zero_add]
    exact (Finset.sum_range_one _).symm
  | succ n ih =>
    have h : n + 1 < 16 := lt16 ⟨n + 1, hn⟩
    rw [acc_step m c ⟨n + 1, hn⟩ (by show ¬ (n + 1) % 16 = 0; omega), tileSum_eq, Finset.sum_range_succ]
    exact congrArg (· + _) (ih _)

/-- The lane sums put together: every token once. -/
theorem sum_acc (e : Fin 16) : ∑ g, acc m c t0_15 (ix2 e g) = ∑ b, ∑ s, Spec.prob (zz m c b s) e := by
  have h1 (b : Fin 2) : ∑ s, Spec.prob (zz m c b s) e = ∑ k : Fin 16, ∑ h : Fin 2, ∑ g : Fin 128,
      Spec.prob (zz m c b ⟨(256 * k + (128 * h + g)) % 4096, Nat.mod_lt _ (by decide)⟩) e := by
    refine (Hist.sum_split 16 256 (fun s : Fin 4096 => Spec.prob (zz m c b s) e)).trans (Finset.sum_congr rfl fun k _ => ?_)
    refine (Hist.sum_split 2 128 (fun r : Fin 256 => Spec.prob (zz m c b (finProdFinEquiv (k, r) : Fin (16 * 256))) e)).trans
      (Finset.sum_congr rfl fun h _ => Finset.sum_congr rfl fun g _ => ?_)
    refine congrArg (fun s => Spec.prob (zz m c b s) e) (Fin.ext ?_)
    show (g.val + 128 * h.val) + 256 * k.val = (256 * k.val + (128 * h.val + g.val)) % 4096
    omega
  simp only [acc_eq, h1, term]
  rw [Finset.sum_comm, show t0_15.val + 1 = 16 from rfl, Finset.sum_range]
  rw [Finset.sum_comm (s := (Finset.univ : Finset (Fin 2)))]
  refine Finset.sum_congr rfl fun k _ => ?_
  rw [Finset.sum_comm]
  refine Finset.sum_congr rfl fun b _ => ?_
  rw [Finset.sum_comm]

/-- Window 6's array: the mean probabilities. -/
theorem arr6 : (dats m 0 c).arrAt 6 (cfgs 0).N = fun i : S1x16.Idx => Spec.mean (zz m c) (i 1) := by
  refine (dats m 0 c).arrAt_eq_of_after_last 6 t0_15 (by decide +kernel) _ fun y => ?_
  blk_simp
  rw [after0_6]
  idx_vars y
  exact (out6 m c t0_15 rfl y0 y1).trans (by rw [sum_acc]; rfl)

end Cert.KernelIdeal.KArr
-- ==== Proof.KRun.lean ====
module
public import proofs.«01_k».proof.Proof.KArr

/-!
The kernel's run: its five results as functions of its arguments, the arguments left as they were.
-/

@[expose] public section
set_option maxRecDepth 16384
noncomputable section
namespace Cert.KernelIdeal.KRun
open Cert.KernelIdeal Cert.KernelIdeal.Gen Idealize.ShloMosaic Idealize.SL.Sem Cert.KernelIdeal.KArr

variable (m : (ℓ : Loc nD τ sig) → Buf (Elt Ideal) ℓ) (c : Dev nD)

/-- The mean probabilities, reshaped after the region to a vector. -/
theorem tail_v3 : Pipeline.afterTail₀ cfgs (dats m) 0 (V0 m) [hostOps1] c main_v3 = fun i : S16.Idx => Spec.mean (zz m c) (i 0) := by
  unfold Pipeline.afterTail₀
  simp only [List.flatten_cons, List.flatten_nil, List.append_nil]
  after_results
  rw [show Pipeline.withArrays (cfgs 0).spec c (V0 m c) (fun w => (dats m 0 c).arrAt w (cfgs 0).N) (Proc.devRef .tc main_v2_2)
    = (dats m 0 c).arrAt 6 (cfgs 0).N from Pipeline.withArrays_arr _ launch0.win.arr_inj _ _ _ 6, arr6]
  funext i
  idx_vars i
  show shapeCast S16 (fun i : S1x16.Idx => Spec.mean (zz m c) (i 1)) shapeCasts_S1x16_S16 (ix1 i0) = _
  pointwise

/-- The gradients, transposed after the region to tokens before experts. -/
theorem tail_v4 : Pipeline.afterTail₀ cfgs (dats m) 0 (V0 m) [hostOps1] c main_v4
    = fun i : S2x4096x16.Idx => Spec.dlogit (zz m c (i 0) (i 1)) (ff m c) (i 2) := by
  unfold Pipeline.afterTail₀
  simp only [List.flatten_cons, List.flatten_nil, List.append_nil]
  after_results
  rw [show Pipeline.withArrays (cfgs 0).spec c (V0 m c) (fun w => (dats m 0 c).arrAt w (cfgs 0).N) (Proc.devRef .tc main_v2_4)
    = (dats m 0 c).arrAt 8 (cfgs 0).N from Pipeline.withArrays_arr _ launch0.win.arr_inj _ _ _ 8, arr8]
  funext i
  idx_vars i
  pointwise

/-- Every run ends with the five results at the router statistics of the arguments, and the arguments unchanged. -/
theorem run (g) : θ_run defs (onTc (τ := τ) (main (F := Ideal))) ⟨m, fun _ => 0, g⟩ (fun r => ∀ c : Dev nD,
      (r.2.mem ((c.tc : Thread nD τ).loc main_v2_0) = (fun i : S2x4096.Idx => Spec.aux (zz m c (i 0) (i 1)) (ff m c))
      ∧ r.2.mem ((c.tc : Thread nD τ).loc main_v2_1) = (fun i : S2x4096.Idx => Spec.zterm (zz m c (i 0) (i 1)))
      ∧ r.2.mem ((c.tc : Thread nD τ).loc main_v3) = (fun i : S16.Idx => Spec.mean (zz m c) (i 0))
      ∧ r.2.mem ((c.tc : Thread nD τ).loc main_v2_3) = (fun i : S2x4096.Idx => Spec.lse (zz m c (i 0) (i 1)))
      ∧ r.2.mem ((c.tc : Thread nD τ).loc main_v4)
        = (fun i : S2x4096x16.Idx => Spec.dlogit (zz m c (i 0) (i 1)) (ff m c) (i 2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨⟨((h.1 c).1 4).trans (arr4 m c), ((h.1 c).1 5).trans (arr5 m c),
      ((h.1 c).2 main_v3 (Pipeline.mem_restRefs_of main_v3 (by decide) (by decide))).trans (tail_v3 m c),
      ((h.1 c).1 7).trans (arr7 m c),
      ((h.1 c).2 main_v4 (Pipeline.mem_restRefs_of main_v4 (by decide) (by decide))).trans (tail_v4 m c)⟩, h.2 c⟩)
    (θ_run_and (run_main m g) (unchanged m g))

end Cert.KernelIdeal.KRun
-- ==== Proof.RefArr.lean ====
module
public import proofs.«01_k».proof.Proof.Gen.ReferenceIdeal.Frame
public import Idealize.ShloMosaic.Lib.Pipeline.ValueKit
public import proofs.«01_k».proof.Proof.Spec

/-!
The reference's logits and log-sum-exp: what its one-point region leaves in its two arrays.
-/

@[expose] public section
set_option maxRecDepth 16384
noncomputable section
namespace Cert.ReferenceIdeal.RefArr
open Cert.ReferenceIdeal Cert.ReferenceIdeal.Gen Idealize.ShloMosaic Idealize.SL.Sem

/-- The exponential is not negative. -/
theorem exp_nonneg (x : EReal) : 0 ≤ Ideal.exp x := by
  induction x with
  | bot => exact le_refl 0
  | top => exact le_top
  | coe r => exact EReal.coe_nonneg.2 (Real.exp_pos r).le

/-- A sum of exponentials is its own absolute value. -/
theorem abs_sum (z : Fin 16 → EReal) : FloatOps.absf (F := Ideal) (φ := .f32) (∑ e, Ideal.exp (z e)) = ∑ e, Ideal.exp (z e) := by
  have h : (0 : EReal) ≤ ∑ e, Ideal.exp (z e) := Finset.sum_nonneg fun e _ => exp_nonneg _
  show max (∑ e, Ideal.exp (z e)) (-∑ e, Ideal.exp (z e)) = _
  exact max_eq_left ((EReal.neg_le_zero.2 h).trans h)

/-- The maximum is at least where its fold starts. -/
theorem max_mx (z : Fin 16 → EReal) : max (Ideal.ofBits FTy.f32 4286578688#32)
    (Finset.fold max (Ideal.ofBits FTy.f32 4286578688#32) (fun e => z e) Finset.univ) = Spec.mx z :=
  max_eq_right ((Finset.le_fold_max _).2 (Or.inl le_rfl))

section Payloads
variable (v0 : Vec Ideal S2x4096x16384 .fp8e4m3) (v2 : Vec Ideal S16384x16 .bf16) (v4 : Vec Ideal S2x4096 .f32)

/-- The logits of the region's operands. -/
def zin (b : Fin 2) (s : Fin 4096) (e : Fin 16) : EReal := (∑ d, v0 (ix3 b s d) * v2 (ix2 d e)) * v4 (ix2 b s)

/-- The first value the region stores: the logits. -/
theorem pay1 (b : Fin 2) (s : Fin 4096) (e : Fin 16) : k0_pay1 v0 v2 v4 (ix3 b s e) = zin v0 v2 v4 b s e := by
  pointwise [k0_pay1, zin]

/-- The second value the region stores: the log-sum-exp of the logits. -/
theorem pay2 (b : Fin 2) (s : Fin 4096) : k0_pay2 v0 v2 v4 (ix2 b s) = Spec.lse (zin v0 v2 v4 b s) := by
  pointwise [k0_pay2]
  simp only [pay1, max_mx, abs_sum]
  rfl

end Payloads

variable (m : (ℓ : Loc nD τ sig) → Buf (Elt Ideal) ℓ) (c : Dev nD) (t : Fin cfg0.N)

/-- Every window stays at its array's origin. -/
theorem idx : ∀ t : Fin cfg0.N, win0_0.index t = ![0, 0, 0] ∧ win0_1.index t = ![0, 0] ∧ win0_2.index t = ![0, 0]
    ∧ win0_3.index t = ![0, 0, 0] ∧ win0_4.index t = ![0, 0] := by decide +kernel

/-- The reference's arguments, at indices. -/
def argX (b : Fin 2) (s : Fin 4096) (d : Fin 16384) : EReal :=
  (m ((c.tc : Thread nD τ).loc main_arg0) : Vec Ideal S2x4096x16384 .fp8e4m3) (ix3 b s d)
def argS (b : Fin 2) (s : Fin 4096) : EReal := (m ((c.tc : Thread nD τ).loc main_arg1) : Vec Ideal S2x4096 .f32) (ix2 b s)
def argW (d : Fin 16384) (e : Fin 16) : EReal := (m ((c.tc : Thread nD τ).loc main_arg2) : Vec Ideal S16384x16 .bf16) (ix2 d e)

/-- The logits of the arguments. -/
def zz (b : Fin 2) (s : Fin 4096) : Fin 16 → EReal := Spec.logits (argX m c) (argS m c) (argW m c) b s

/-- The region reads all the codes. -/
theorem blk0 (b : Fin 2) (s : Fin 4096) (d : Fin 16384) :
    (iblk m c 0 t : Vec Ideal S2x4096x16384 .fp8e4m3) (ix3 b s d) = argX m c b s d := by
  unfold argX
  rw [← V_main_arg0 m c]
  blk_ext [iblk, V, idx t]

/-- The region reads all the scales. -/
theorem blk1 (b : Fin 2) (s : Fin 4096) : (iblk m c 1 t : Vec Ideal S2x4096 .f32) (ix2 b s) = argS m c b s := by
  unfold argS
  rw [← V_main_arg1 m c]
  blk_ext [iblk, V, idx t]

/-- The region reads all the weights. -/
theorem blk2 (d : Fin 16384) (e : Fin 16) : (iblk m c 2 t : Vec Ideal S16384x16 .bf16) (ix2 d e) = argW m c d e := by
  unfold argW
  rw [← V_main_arg2 m c]
  blk_ext [iblk, V, idx t]

/-- The region's logits are the arguments'. -/
theorem zin_eq (b : Fin 2) (s : Fin 4096) : zin (iblk m c 0 t) (iblk m c 2 t) (iblk m c 1 t) b s = zz m c b s := by
  funext e
  unfold zin zz Spec.logits
  exact congrArg₂ (· * ·) (Finset.sum_congr rfl fun d _ => congrArg₂ (· * ·) (blk0 m c t b s d) (blk2 m c t d e)) (blk1 m c t b s)

/-- What the body leaves in the first buffer: the logits. -/
theorem out3 (b : Fin 2) (s : Fin 4096) (e : Fin 16) :
    out0_3 (iblk m c 0 t) (iblk m c 1 t) (iblk m c 2 t) (ix3 b s e) = zz m c b s e := by
  unfold out0_3
  simp (disch := decide) only [View.canon_cons_unit_lit', View.ld_unit_lit]
  exact (pay1 _ _ _ b s e).trans (congrFun (zin_eq m c t b s) e)

/-- What the body leaves in the second buffer: the log-sum-exp. -/
theorem out4 (b : Fin 2) (s : Fin 4096) :
    out0_4 (iblk m c 0 t) (iblk m c 1 t) (iblk m c 2 t) (ix2 b s) = Spec.lse (zz m c b s) := by
  unfold out0_4
  simp (disch := decide) only [View.canon_cons_unit_lit', View.ld_unit_lit]
  exact (pay2 _ _ _ b s).trans (congrArg _ (zin_eq m c t b s))

/-- The region's first array: the logits. -/
theorem arr3 : (dats m 0 c).arrAt 3 (cfgs 0).N = fun i : S2x4096x16.Idx => zz m c (i 0) (i 1) (i 2) := by
  refine (dats m 0 c).arrAt_eq_of_covers 3 _ (by decide +kernel) fun t hf y => ?_
  have h : ((cfg0.win 3).blk t).view.emb y = ix3 (y 0) (y 1) (y 2) := by
    blk_ext [idx t]
  rw [h]
  blk_simp
  rw [after0_3]
  idx_vars y
  exact out3 m c t y0 y1 y2

/-- The region's second array: the log-sum-exp. -/
theorem arr4 : (dats m 0 c).arrAt 4 (cfgs 0).N = fun i : S2x4096.Idx => Spec.lse (zz m c (i 0) (i 1)) := by
  refine (dats m 0 c).arrAt_eq_of_covers 4 _ (by decide +kernel) fun t hf y => ?_
  have h : ((cfg0.win 4).blk t).view.emb y = ix2 (y 0) (y 1) := by
    blk_ext [idx t]
  rw [h]
  blk_simp
  rw [after0_4]
  idx_vars y
  exact out4 m c t y0 y1

end Cert.ReferenceIdeal.RefArr
-- ==== Proof.RefHist.lean ====
module
public import proofs.«01_k».proof.Proof.Gen.ReferenceIdeal.Frame
public import Idealize.ShloMosaic.Lib.Pipeline.ValueKit
public import Idealize.ShloMosaic.Lib.Routing.Ops
public import Idealize.ShloMosaic.Lib.Routing.OpsPair
public import proofs.«01_k».proof.Proof.Hist

/-!
The reference's histogram of the routed ids: the indexed add of ones counts, per expert, the ids that name it.
-/

@[expose] public section
set_option maxRecDepth 65536
noncomputable section
namespace Cert.ReferenceIdeal.RefHist
open Cert.ReferenceIdeal Cert.ReferenceIdeal.Gen Idealize.ShloMosaic

/-- An update of the indexed add lands at expert `e` exactly when its index, read signed, is `e`. -/
theorem lands (idx : IVec S32768x1 32) (n : Fin 32768) (e : Fin 16) :
    scatter_S16_S32768x1_S32768_n_0_0_1.resultIdx? (ix1 n) idx = some (ix1 e) ↔ (idx (ix2 n 0)).toInt = (e.val : Int) := by
  have hwin : scatter_S16_S32768x1_S32768_n_0_0_1.window (ix1 n) 0 = 0 := rfl
  have hstart : scatter_S16_S32768x1_S32768_n_0_0_1.start (ix1 n) idx 0 = (idx (ix2 n 0)).toInt := by
    unfold ScatterDims.start
    rw [dif_pos (by decide)]
    refine congrArg (fun i => (idx i).toInt) ?_
    funext a
    fin_cases a <;> rfl
  refine (Routing.resultIdx?_ix1 scatter_S16_S32768x1_S32768_n_0_0_1 (ix1 n) idx e).trans ?_
  rw [hstart, hwin]
  simp

/-- Adding one at each entry of a list that passes a test counts them. -/
theorem foldl_count {α : Type} (p : α → Prop) [DecidablePred p] (L : List α) (k : ℕ) :
    L.foldl (fun a n => if p n then IntOp.addi a 1#32 else a) (BitVec.ofNat 32 k)
      = BitVec.ofNat 32 (k + (L.map fun n => if p n then 1 else 0).sum) := by
  induction L generalizing k with
  | nil => rfl
  | cons n L ih =>
    rw [List.foldl_cons, List.map_cons, List.sum_cons]
    by_cases h : p n
    · rw [if_pos h, if_pos h, show IntOp.addi (BitVec.ofNat 32 k) 1#32 = BitVec.ofNat 32 (k + 1) from (BitVec.ofNat_add k 1).symm, ih, add_assoc]
    · rw [if_neg h, if_neg h, ih, Nat.zero_add]

/-- The indexed add of ones to zeros counts the indices. -/
theorem hist (x : IVec S16 32) (hx : ∀ i, x i = 0#32) (idx : IVec S32768x1 32) (u : IVec S32768 32) (hu : ∀ i, u i = 1#32) (e : Fin 16) :
    Host.scatter scatter_S16_S32768x1_S32768_n_0_0_1 IntOp.addi x idx u (ix1 e)
      = BitVec.ofNat 32 (∑ n : Fin 32768, if idx (ix2 n 0) = BitVec.ofNat 32 e then 1 else 0) := by
  rw [Routing.scatter_at]
  simp only [hu]
  rw [hx, show (0#32 : BitVec 32) = BitVec.ofNat 32 0 from rfl, foldl_count, Nat.zero_add]
  refine congrArg _ ?_
  rw [← Fin.sum_univ_def]
  refine Fintype.sum_equiv (finCongr (Routing.numel1 32768)) _ _ fun n => ?_
  have h := lands idx (finCongr (Routing.numel1 32768) n) e
  rw [show S32768.rowMajor.symm n = ix1 (finCongr (Routing.numel1 32768) n) from Routing.symm1 n]
  have he : (BitVec.ofNat 32 e.val).toInt = (e.val : Int) := by
    rw [BitVec.toInt_eq_toNat_of_lt] <;> simp only [BitVec.toNat_ofNat] <;> omega
  exact if_congr (h.trans (by rw [← he, BitVec.toInt_inj])) rfl rfl

/-- The ids in their row-major order, counted token by token. -/
theorem sum_ids (ids : Fin 2 → Fin 4096 → Fin 4 → BitVec 32) (e : Fin 16) :
    (∑ n : Fin 32768, if ids ⟨n / 16384, by omega⟩ ⟨n / 4 % 4096, by omega⟩ ⟨n % 4, by omega⟩ = BitVec.ofNat 32 e then 1 else 0)
      = Spec.count ids e := by
  refine (Cert.KernelIdeal.Hist.sum_split 2 16384 (fun n : Fin 32768 =>
    if ids ⟨n / 16384, by omega⟩ ⟨n / 4 % 4096, by omega⟩ ⟨n % 4, by omega⟩ = BitVec.ofNat 32 e then 1 else 0)).trans
    (Finset.sum_congr rfl fun b _ => ?_)
  refine (Cert.KernelIdeal.Hist.sum_split 4096 4 _).trans (Finset.sum_congr rfl fun s _ => Finset.sum_congr rfl fun k _ => ?_)
  have e0 : ((finProdFinEquiv (b, (finProdFinEquiv (s, k) : Fin 16384)) : Fin 32768) : ℕ) = (k + 4 * s) + 16384 * b := rfl
  rw [show (⟨(finProdFinEquiv (b, (finProdFinEquiv (s, k) : Fin 16384)) : Fin 32768) / 16384, by omega⟩ : Fin 2) = b from Fin.ext (by
      show _ / 16384 = b.val; omega),
    show (⟨(finProdFinEquiv (b, (finProdFinEquiv (s, k) : Fin 16384)) : Fin 32768) / 4 % 4096, by omega⟩ : Fin 4096) = s from Fin.ext (by
      show _ / 4 % 4096 = s.val; omega),
    show (⟨(finProdFinEquiv (b, (finProdFinEquiv (s, k) : Fin 16384)) : Fin 32768) % 4, by omega⟩ : Fin 4) = k from Fin.ext (by
      show _ % 4 = k.val; omega)]

/-- There are 32768 ids. -/
theorem count_lt (ids : Fin 2 → Fin 4096 → Fin 4 → BitVec 32) (e : Fin 16) : Spec.count ids e < 2 ^ 31 := by
  rw [← sum_ids]
  exact lt_of_le_of_lt (Finset.sum_le_card_nsmul _ _ 1 fun n _ => by split <;> simp) (by simp)

variable (m : (ℓ : Loc nD τ sig) → Buf (Elt Ideal) ℓ) (c : Dev nD)

/-- The routed ids, at indices. -/
def argI (b : Fin 2) (s : Fin 4096) (k : Fin 4) : BitVec 32 :=
  (m ((c.tc : Thread nD τ).loc main_arg3) : Vec Ideal S2x4096x4 .i32) (ix3 b s k)

/-- The fractions before the region, for ids that are not negative. -/
theorem V_main_v12 (hI : ∀ b s k, IntOp.cmpi .slt (argI m c b s k) 0#32 = 0#1) (e : Fin 16) :
    (V m c main_v12 : Vec Ideal S16 .f32) (ix1 e) = Spec.frac (argI m c) e := by
  unfold V V0
  simp only [List.flatten_cons, List.flatten_nil, List.append_nil]
  after_results
  pointwise
  rw [hist _ (fun i => by idx_vars i; pointwise) _ _ (fun i => by idx_vars i; pointwise)]
  have h0 (n : Fin 32768) : Scalar.select (IntOp.cmpi .slt (argI m c ⟨n / 16384, by omega⟩ ⟨n / 4 % 4096, by omega⟩ ⟨n % 4, by omega⟩) 0#32)
      (IntOp.addi (argI m c ⟨n / 16384, by omega⟩ ⟨n / 4 % 4096, by omega⟩ ⟨n % 4, by omega⟩) 16#32)
      (argI m c ⟨n / 16384, by omega⟩ ⟨n / 4 % 4096, by omega⟩ ⟨n % 4, by omega⟩)
      = argI m c ⟨n / 16384, by omega⟩ ⟨n / 4 % 4096, by omega⟩ ⟨n % 4, by omega⟩ := by
    rw [hI]; rfl
  refine (congrArg (fun w => Ideal.div (Scalar.sitofp (F := Ideal) .f32 (BitVec.ofNat 32 w)) (Ideal.ofBits FTy.f32 1191182336#32))
    ((Finset.sum_congr rfl fun n _ => ?_).trans (sum_ids (argI m c) e))).trans ?_
  · pointwise
    exact if_congr (Eq.congr_left (h0 n)) rfl rfl
  · rw [Cert.KernelIdeal.Hist.sitofp_ofNat _ (count_lt _ _)]
    rfl

end Cert.ReferenceIdeal.RefHist
-- ==== Proof.RefRun.lean ====
module
public import proofs.«01_k».proof.Proof.RefArr
public import proofs.«01_k».proof.Proof.RefHist

/-!
The reference's run: its five results as functions of its arguments, the arguments left as they were.
-/

@[expose] public section
set_option maxRecDepth 16384
noncomputable section
namespace Cert.ReferenceIdeal.RefRun
open Cert.ReferenceIdeal Cert.ReferenceIdeal.Gen Idealize.ShloMosaic Idealize.SL.Sem Cert.ReferenceIdeal.RefArr Cert.ReferenceIdeal.RefHist

variable (m : (ℓ : Loc nD τ sig) → Buf (Elt Ideal) ℓ) (c : Dev nD)

/-- The ids are not negative. -/
def Nonneg : Prop := ∀ c b s k, IntOp.cmpi .slt (argI m c b s k) 0#32 = 0#1

/-- The fractions of the arguments. -/
def ff (e : Fin 16) : EReal := Spec.frac (argI m c) e

/-- After the region, before the later lines: the logits. -/
theorem at_v13_0 : Pipeline.withArrays (cfgs 0).spec c (V0 m c) (fun w => (dats m 0 c).arrAt w (cfgs 0).N) (Proc.devRef .tc main_v13_0)
    = fun i : S2x4096x16.Idx => zz m c (i 0) (i 1) (i 2) :=
  (Pipeline.withArrays_arr _ launch0.win.arr_inj _ _ _ 3).trans (arr3 m c)

/-- After the region, before the later lines: the log-sum-exp. -/
theorem at_v13_1 : Pipeline.withArrays (cfgs 0).spec c (V0 m c) (fun w => (dats m 0 c).arrAt w (cfgs 0).N) (Proc.devRef .tc main_v13_1)
    = fun i : S2x4096.Idx => Spec.lse (zz m c (i 0) (i 1)) :=
  (Pipeline.withArrays_arr _ launch0.win.arr_inj _ _ _ 4).trans (arr4 m c)

/-- After the region, before the later lines: the fractions, computed before it. -/
theorem at_v12 (hI : Nonneg m) :
    Pipeline.withArrays (cfgs 0).spec c (V0 m c) (fun w => (dats m 0 c).arrAt w (cfgs 0).N) (Proc.devRef .tc main_v12)
    = fun i : S16.Idx => ff m c (i 0) :=
  (Pipeline.withArrays_of_ne _ c (V0 m c) _ main_v12 (by exact (by decide : ∀ w, Pipeline.arrRef spec0 w ≠ main_v12))).trans
    (funext fun i => by idx_vars i; exact V_main_v12 m c (hI c) i0)

/-- The load-balance terms. -/
theorem tail_v23 (hI : Nonneg m) : Pipeline.afterTail₀ cfgs (dats m) 0 (V0 m) [hostOps1] c main_v23
    = fun i : S2x4096.Idx => Spec.aux (zz m c (i 0) (i 1)) (ff m c) := by
  unfold Pipeline.afterTail₀
  simp only [List.flatten_cons, List.flatten_nil, List.append_nil]
  after_results
  rw [at_v13_0, at_v13_1, at_v12 m c hI]
  funext i
  idx_vars i
  pointwise
  rfl

/-- The z-loss terms. -/
theorem tail_v26 : Pipeline.afterTail₀ cfgs (dats m) 0 (V0 m) [hostOps1] c main_v26
    = fun i : S2x4096.Idx => Spec.zterm (zz m c (i 0) (i 1)) := by
  unfold Pipeline.afterTail₀
  simp only [List.flatten_cons, List.flatten_nil, List.append_nil]
  after_results
  rw [at_v13_1]
  funext i
  idx_vars i
  pointwise
  rfl

/-- The host's sum over the two token axes. -/
theorem sum_tokens (x : S2x4096x16.Idx → EReal) (a : EReal) (e : Fin 16) :
    Ideal.hostReduceAdd reducesTo_S2x4096x16_S16_d0_1 x a (ix1 e) = a + ∑ b : Fin 2, ∑ s : Fin 4096, x (ix3 b s e) := by
  refine congrArg (a + ·) ?_
  refine (Finset.sum_filter_eq_sum_of_fiber _ (fun k : Fin 2 × Fin 4096 => ix3 k.1 k.2 e)
    (fun _ _ q => Prod.ext (congrFun q 0) (congrFun q 1)) (fun i => ?_) x).trans ?_
  · constructor
    · intro q
      refine ⟨(i 0, i 1), ?_⟩
      funext a; apply Fin.ext
      match a with
      | ⟨0, _⟩ => rfl
      | ⟨1, _⟩ => rfl
      | ⟨2, _⟩ => exact (congrArg Fin.val (congrFun q 0)).symm
    · rintro ⟨k, rfl⟩
      funext b
      apply Fin.ext
      match b with
      | ⟨0, _⟩ => rfl
  · simp only [Fintype.sum_prod_type]

/-- The host's sum of the probabilities over the tokens. -/
theorem sum_probs (z : Fin 2 → Fin 4096 → Fin 16 → EReal) (x : S2x4096x16.Idx → EReal) (hx : ∀ b s e, x (ix3 b s e) = Spec.prob (z b s) e)
    (e : Fin 16) : Ideal.hostReduceAdd reducesTo_S2x4096x16_S16_d0_1 x 0 (ix1 e) = ∑ b, ∑ s, Spec.prob (z b s) e := by
  rw [sum_tokens, zero_add]
  simp only [hx]

/-- The mean probabilities. -/
theorem tail_v20 : Pipeline.afterTail₀ cfgs (dats m) 0 (V0 m) [hostOps1] c main_v20
    = fun i : S16.Idx => Spec.mean (zz m c) (i 0) := by
  unfold Pipeline.afterTail₀
  simp only [List.flatten_cons, List.flatten_nil, List.append_nil]
  after_results
  rw [at_v13_0, at_v13_1]
  funext i
  idx_vars i
  pointwise
  unfold Spec.mean
  rw [sum_probs (zz m c) _ (fun b s e => by pointwise; rfl)]

/-- The gradients. -/
theorem tail_v39 (hI : Nonneg m) : Pipeline.afterTail₀ cfgs (dats m) 0 (V0 m) [hostOps1] c main_v39
    = fun i : S2x4096x16.Idx => Spec.dlogit (zz m c (i 0) (i 1)) (ff m c) (i 2) := by
  unfold Pipeline.afterTail₀
  simp only [List.flatten_cons, List.flatten_nil, List.append_nil]
  after_results
  rw [at_v13_0, at_v13_1, at_v12 m c hI]
  funext i
  idx_vars i
  pointwise
  rfl

/-- Every run ends with the five results at the router statistics of the arguments, and the arguments unchanged. -/
theorem run (hI : Nonneg m) (g) : θ_run defs (onTc (τ := τ) (main (F := Ideal))) ⟨m, fun _ => 0, g⟩ (fun r => ∀ c : Dev nD,
      (r.2.mem ((c.tc : Thread nD τ).loc main_v23) = (fun i : S2x4096.Idx => Spec.aux (zz m c (i 0) (i 1)) (ff m c))
      ∧ r.2.mem ((c.tc : Thread nD τ).loc main_v26) = (fun i : S2x4096.Idx => Spec.zterm (zz m c (i 0) (i 1)))
      ∧ r.2.mem ((c.tc : Thread nD τ).loc main_v20) = (fun i : S16.Idx => Spec.mean (zz m c) (i 0))
      ∧ r.2.mem ((c.tc : Thread nD τ).loc main_v13_1) = (fun i : S2x4096.Idx => Spec.lse (zz m c (i 0) (i 1)))
      ∧ r.2.mem ((c.tc : Thread nD τ).loc main_v39)
        = (fun i : S2x4096x16.Idx => Spec.dlogit (zz m c (i 0) (i 1)) (ff m c) (i 2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨⟨
      ((h.1 c).2 main_v23 (Pipeline.mem_restRefs_of main_v23 (by decide) (by decide))).trans (tail_v23 m c hI),
      ((h.1 c).2 main_v26 (Pipeline.mem_restRefs_of main_v26 (by decide) (by decide))).trans (tail_v26 m c),
      ((h.1 c).2 main_v20 (Pipeline.mem_restRefs_of main_v20 (by decide) (by decide))).trans (tail_v20 m c),
      ((h.1 c).1 4).trans (arr4 m c),
      ((h.1 c).2 main_v39 (Pipeline.mem_restRefs_of main_v39 (by decide) (by decide))).trans (tail_v39 m c hI)⟩, h.2 c⟩)
    (θ_run_and (run_main m g) (unchanged m g))

end Cert.ReferenceIdeal.RefRun
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_ids_nonneg
public import proofs.«01_k».proof.Proof.KRun
public import proofs.«01_k».proof.Proof.RefRun
public import Idealize.ShloMosaic.Adequacy
public import Idealize.ShloMosaic.Init

@[expose] public section

noncomputable section

namespace Cert.Proof

open Idealize.ShloMosaic Idealize.SL.Sem Cert.Kernel

/-- The precondition read at an id of the reference's memory: no id is negative. -/
theorem nonneg {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ}
    (hP : Cert.Pre_KernelIdeal_ids_nonneg m) (h3 : ∀ c : Dev Cert.KernelIdeal.nD,
      m' ((c.tc : Thread Cert.ReferenceIdeal.nD Cert.ReferenceIdeal.τ).loc Cert.ReferenceIdeal.main_arg3)
        = m ((c.tc : Thread Cert.KernelIdeal.nD Cert.KernelIdeal.τ).loc Cert.KernelIdeal.main_arg3)) :
    Cert.ReferenceIdeal.RefRun.Nonneg m' := by
  intro c b s k
  have h : IntOp.cmpi .sge (Cert.ReferenceIdeal.RefHist.argI m' c b s k) 0#32 = 1#1 := by
    unfold Cert.ReferenceIdeal.RefHist.argI
    rw [h3 c]
    exact congrFun (hP c) (ix3 b s k)
  generalize Cert.ReferenceIdeal.RefHist.argI m' c b s k = w at h ⊢
  revert h
  simp only [IntOp.cmpi, BitVec.sle_eq_not_slt]
  cases BitVec.slt w 0#32 <;> decide

/-- The value claim: kernel and reference end with the same five results. -/
theorem value : Cert.algebraic_KernelIdeal_ReferenceIdeal_pre_ids_nonneg := by
  intro m g m' g' hP hm
  have hX : ∀ c, Cert.ReferenceIdeal.RefArr.argX m' c = Cert.KernelIdeal.KArr.argX m c := fun c =>
    funext fun b => funext fun s => funext fun d => congrFun (hm c).1 (ix3 b s d)
  have hS : ∀ c, Cert.ReferenceIdeal.RefArr.argS m' c = Cert.KernelIdeal.KArr.argS m c := fun c =>
    funext fun b => funext fun s => congrFun (hm c).2.1 (ix2 b s)
  have hW : ∀ c, Cert.ReferenceIdeal.RefArr.argW m' c = Cert.KernelIdeal.KArr.argW m c := fun c =>
    funext fun d => funext fun e => congrFun (hm c).2.2.1 (ix2 d e)
  have hI : ∀ c, Cert.ReferenceIdeal.RefHist.argI m' c = Cert.KernelIdeal.KArr.argI m c := fun c =>
    funext fun b => funext fun s => funext fun k => congrFun (hm c).2.2.2 (ix3 b s k)
  have hz : ∀ c, Cert.ReferenceIdeal.RefArr.zz m' c = Cert.KernelIdeal.KArr.zz m c := fun c => by
    unfold Cert.ReferenceIdeal.RefArr.zz Cert.KernelIdeal.KArr.zz
    rw [hX, hS, hW]
  have hf : ∀ c, Cert.ReferenceIdeal.RefRun.ff m' c = Cert.KernelIdeal.KArr.ff m c := fun c => by
    unfold Cert.ReferenceIdeal.RefRun.ff Cert.KernelIdeal.KArr.ff
    rw [hI]
  refine ⟨fun c => fun i : Cert.KernelIdeal.S2x4096.Idx =>
      Cert.Spec.aux (Cert.KernelIdeal.KArr.zz m c (i 0) (i 1)) (Cert.KernelIdeal.KArr.ff m c),
    fun c => fun i : Cert.KernelIdeal.S2x4096.Idx => Cert.Spec.zterm (Cert.KernelIdeal.KArr.zz m c (i 0) (i 1)),
    fun c => fun i : Cert.KernelIdeal.S16.Idx => Cert.Spec.mean (Cert.KernelIdeal.KArr.zz m c) (i 0),
    fun c => fun i : Cert.KernelIdeal.S2x4096.Idx => Cert.Spec.lse (Cert.KernelIdeal.KArr.zz m c (i 0) (i 1)),
    fun c => fun i : Cert.KernelIdeal.S2x4096x16.Idx =>
      Cert.Spec.dlogit (Cert.KernelIdeal.KArr.zz m c (i 0) (i 1)) (Cert.KernelIdeal.KArr.ff m c) (i 2),
    (θ_run _ _ _).mono (fun r h c => ?_) (Cert.KernelIdeal.KRun.run m g),
    (θ_run _ _ _).mono (fun r h c => ?_) (Cert.ReferenceIdeal.RefRun.run m' (nonneg hP fun c => (hm c).2.2.2) g')⟩
  · obtain ⟨⟨h0, h1, h2, h3, h4⟩, ha⟩ := h c
    exact ⟨h0, h1, h2, h3, h4, ha⟩
  · have h := h c
    rw [hz, hf] at h
    obtain ⟨⟨h0, h1, h2, h3, h4⟩, ha⟩ := h
    exact ⟨h0, h1, h2, h3, h4, ha⟩

/-- The certificate: the runs end quietly, the bit-exact and the ideal kernel are one text, and the value claim. -/
theorem claim : Cert.Claim := ⟨Cert.Kernel.Gen.facts, Cert.KernelIdeal.Gen.facts, Cert.ReferenceIdeal.Gen.facts, Cert.Pre_ids_nonneg.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, trivial, value⟩

end Cert.Proof

end
